-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x4096 : Shape := ⟨3, ![2, 896, 4096]⟩
abbrev S2x896 : Shape := ⟨2, ![2, 896]⟩
abbrev S2 : Shape := ⟨1, ![2]⟩
abbrev S2x1x896 : Shape := ⟨3, ![2, 1, 896]⟩
abbrev S2x896x1 : Shape := ⟨3, ![2, 896, 1]⟩
abbrev S1x896x4096 : Shape := ⟨3, ![1, 896, 4096]⟩
abbrev S1x1x896 : Shape := ⟨3, ![1, 1, 896]⟩
abbrev S1x896x1 : Shape := ⟨3, ![1, 896, 1]⟩
abbrev S1 : Shape := ⟨1, ![1]⟩
abbrev S1x128x4096 : Shape := ⟨3, ![1, 128, 4096]⟩
abbrev S128x4096 : Shape := ⟨2, ![128, 4096]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩
abbrev S1x256x4096 : Shape := ⟨3, ![1, 256, 4096]⟩
abbrev S256x4096 : Shape := ⟨2, ![256, 4096]⟩
abbrev S256x128 : Shape := ⟨2, ![256, 128]⟩
abbrev S1x256x1 : Shape := ⟨3, ![1, 256, 1]⟩
abbrev S256x1 : Shape := ⟨2, ![256, 1]⟩
abbrev S1x384x4096 : Shape := ⟨3, ![1, 384, 4096]⟩
abbrev S384x4096 : Shape := ⟨2, ![384, 4096]⟩
abbrev S384x128 : Shape := ⟨2, ![384, 128]⟩
abbrev S1x384x1 : Shape := ⟨3, ![1, 384, 1]⟩
abbrev S384x1 : Shape := ⟨2, ![384, 1]⟩
abbrev S1x512x4096 : Shape := ⟨3, ![1, 512, 4096]⟩
abbrev S512x4096 : Shape := ⟨2, ![512, 4096]⟩
abbrev S512x128 : Shape := ⟨2, ![512, 128]⟩
abbrev S1x512x1 : Shape := ⟨3, ![1, 512, 1]⟩
abbrev S512x1 : Shape := ⟨2, ![512, 1]⟩
abbrev S1x640x4096 : Shape := ⟨3, ![1, 640, 4096]⟩
abbrev S640x4096 : Shape := ⟨2, ![640, 4096]⟩
abbrev S640x128 : Shape := ⟨2, ![640, 128]⟩
abbrev S1x640x1 : Shape := ⟨3, ![1, 640, 1]⟩
abbrev S640x1 : Shape := ⟨2, ![640, 1]⟩
abbrev S1x768x4096 : Shape := ⟨3, ![1, 768, 4096]⟩
abbrev S768x4096 : Shape := ⟨2, ![768, 4096]⟩
abbrev S768x128 : Shape := ⟨2, ![768, 128]⟩
abbrev S1x768x1 : Shape := ⟨3, ![1, 768, 1]⟩
abbrev S768x1 : Shape := ⟨2, ![768, 1]⟩
abbrev S896x4096 : Shape := ⟨2, ![896, 4096]⟩
abbrev S896x128 : Shape := ⟨2, ![896, 128]⟩
abbrev S896x1 : Shape := ⟨2, ![896, 1]⟩

abbrev nBuf : Space → Nat
  | .hbm => 6
  | .vmem => 8
  | .smem => 1
  | _ => 0

abbrev bufTy : (tb : Table) → Fin (tcTables nBuf tb) → BufTy
  | .hbm, ⟨0, _⟩ => ⟨S2x896x4096, .fp8e4m3⟩
  | .hbm, ⟨1, _⟩ => ⟨S2x896, .f32⟩
  | .hbm, ⟨2, _⟩ => ⟨S2x1x896, .f32⟩
  | .hbm, ⟨3, _⟩ => ⟨S2x896x1, .f32⟩
  | .hbm, ⟨4, _⟩ => ⟨S2x1x896, .f32⟩
  | .hbm, ⟨5, _⟩ => ⟨S2x896, .f32⟩
  | .local _ .vmem, ⟨0, _⟩ => ⟨S1x896x4096, .fp8e4m3⟩
  | .local _ .vmem, ⟨1, _⟩ => ⟨S1x896x4096, .fp8e4m3⟩
  | .local _ .vmem, ⟨2, _⟩ => ⟨S1x1x896, .f32⟩
  | .local _ .vmem, ⟨3, _⟩ => ⟨S1x1x896, .f32⟩
  | .local _ .vmem, ⟨4, _⟩ => ⟨S1x896x1, .f32⟩
  | .local _ .vmem, ⟨5, _⟩ => ⟨S1x896x1, .f32⟩
  | .local _ .vmem, ⟨6, _⟩ => ⟨S1x1x896, .f32⟩
  | .local _ .vmem, ⟨7, _⟩ => ⟨S1x1x896, .f32⟩
  | .local _ .smem, ⟨0, _⟩ => ⟨S2, .i32⟩
  | _, _ => ⟨S2x896x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sle v1 c0_i32_1
  let v6 : BitVec 32 := Scalar.extui v5
  let c0_i32_2 : BitVec 32 := 0#32
  let v7 : BitVec 1 := Scalar.cmpi .ne v6 c0_i32_2
  v7

def k0_cond3 (v1 : BitVec 32) : BitVec 1 :=
  let c128_i32 : BitVec 32 := 128#32
  let v8 : BitVec 1 := Scalar.cmpi .sgt v1 c128_i32
  let v9 : BitVec 32 := Scalar.extui v8
  let c0_i32_3 : BitVec 32 := 0#32
  let v10 : BitVec 1 := Scalar.cmpi .ne v9 c0_i32_3
  v10

def k0_cond4 (v1 : BitVec 32) : BitVec 1 :=
  let c128_i32_4 : BitVec 32 := 128#32
  let v11 : BitVec 1 := Scalar.cmpi .sle v1 c128_i32_4
  let v12 : BitVec 32 := Scalar.extui v11
  let c0_i32_5 : BitVec 32 := 0#32
  let v13 : BitVec 1 := Scalar.cmpi .ne v12 c0_i32_5
  v13

def k0_cond5 (v1 : BitVec 32) : BitVec 1 :=
  let c256_i32 : BitVec 32 := 256#32
  let v14 : BitVec 1 := Scalar.cmpi .sgt v1 c256_i32
  let v15 : BitVec 32 := Scalar.extui v14
  let c0_i32_6 : BitVec 32 := 0#32
  let v16 : BitVec 1 := Scalar.cmpi .ne v15 c0_i32_6
  v16

def k0_cond6 (v1 : BitVec 32) : BitVec 1 :=
  let c256_i32_7 : BitVec 32 := 256#32
  let v17 : BitVec 1 := Scalar.cmpi .sle v1 c256_i32_7
  let v18 : BitVec 32 := Scalar.extui v17
  let c0_i32_8 : BitVec 32 := 0#32
  let v19 : BitVec 1 := Scalar.cmpi .ne v18 c0_i32_8
  v19

def k0_cond7 (v1 : BitVec 32) : BitVec 1 :=
  let c384_i32 : BitVec 32 := 384#32
  let v20 : BitVec 1 := Scalar.cmpi .sgt v1 c384_i32
  let v21 : BitVec 32 := Scalar.extui v20
  let c0_i32_9 : BitVec 32 := 0#32
  let v22 : BitVec 1 := Scalar.cmpi .ne v21 c0_i32_9
  v22

def k0_cond8 (v1 : BitVec 32) : BitVec 1 :=
  let c384_i32_10 : BitVec 32 := 384#32
  let v23 : BitVec 1 := Scalar.cmpi .sle v1 c384_i32_10
  let v24 : BitVec 32 := Scalar.extui v23
  let c0_i32_11 : BitVec 32 := 0#32
  let v25 : BitVec 1 := Scalar.cmpi .ne v24 c0_i32_11
  v25

def k0_cond9 (v1 : BitVec 32) : BitVec 1 :=
  let c512_i32 : BitVec 32 := 512#32
  let v26 : BitVec 1 := Scalar.cmpi .sgt v1 c512_i32
  let v27 : BitVec 32 := Scalar.extui v26
  let c0_i32_12 : BitVec 32 := 0#32
  let v28 : BitVec 1 := Scalar.cmpi .ne v27 c0_i32_12
  v28

def k0_cond10 (v1 : BitVec 32) : BitVec 1 :=
  let c512_i32_13 : BitVec 32 := 512#32
  let v29 : BitVec 1 := Scalar.cmpi .sle v1 c512_i32_13
  let v30 : BitVec 32 := Scalar.extui v29
  let c0_i32_14 : BitVec 32 := 0#32
  let v31 : BitVec 1 := Scalar.cmpi .ne v30 c0_i32_14
  v31

def k0_cond11 (v1 : BitVec 32) : BitVec 1 :=
  let c640_i32 : BitVec 32 := 640#32
  let v32 : BitVec 1 := Scalar.cmpi .sgt v1 c640_i32
  let v33 : BitVec 32 := Scalar.extui v32
  let c0_i32_15 : BitVec 32 := 0#32
  let v34 : BitVec 1 := Scalar.cmpi .ne v33 c0_i32_15
  v34

def k0_cond12 (v1 : BitVec 32) : BitVec 1 :=
  let c640_i32_16 : BitVec 32 := 640#32
  let v35 : BitVec 1 := Scalar.cmpi .sle v1 c640_i32_16
  let v36 : BitVec 32 := Scalar.extui v35
  let c0_i32_17 : BitVec 32 := 0#32
  let v37 : BitVec 1 := Scalar.cmpi .ne v36 c0_i32_17
  v37

def k0_cond13 (v1 : BitVec 32) : BitVec 1 :=
  let c768_i32 : BitVec 32 := 768#32
  let v38 : BitVec 1 := Scalar.cmpi .sgt v1 c768_i32
  let v39 : BitVec 32 := Scalar.extui v38
  let c0_i32_18 : BitVec 32 := 0#32
  let v40 : BitVec 1 := Scalar.cmpi .ne v39 c0_i32_18
  v40

def k0_cond14 (v1 : BitVec 32) : BitVec 1 :=
  let c768_i32_19 : BitVec 32 := 768#32
  let v41 : BitVec 1 := Scalar.cmpi .sle v1 c768_i32_19
  let v42 : BitVec 32 := Scalar.extui v41
  let c0_i32_20 : BitVec 32 := 0#32
  let v43 : BitVec 1 := Scalar.cmpi .ne v42 c0_i32_20
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x896x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x896x4096 : Shape := ⟨3, ![2, 896, 4096]⟩
abbrev S2x896 : Shape := ⟨2, ![2, 896]⟩
abbrev S2 : Shape := ⟨1, ![2]⟩
abbrev S896 : Shape := ⟨1, ![896]⟩
abbrev S2x896x896 : Shape := ⟨3, ![2, 896, 896]⟩
abbrev S2x896x1 : Shape := ⟨3, ![2, 896, 1]⟩
abbrev S2x1x896 : Shape := ⟨3, ![2, 1, 896]⟩
abbrev S2x1 : Shape := ⟨2, ![2, 1]⟩
abbrev S1x1x896 : Shape := ⟨3, ![1, 1, 896]⟩
abbrev S1x896x1 : Shape := ⟨3, ![1, 896, 1]⟩
abbrev S1x896x896 : Shape := ⟨3, ![1, 896, 896]⟩
abbrev S2x1x1 : Shape := ⟨3, ![2, 1, 1]⟩
abbrev S_ : Shape := ⟨0, ![]⟩
abbrev S1x896 : Shape := ⟨2, ![1, 896]⟩

abbrev nBuf : Space → Nat
  | .hbm => 45
  | .vmem => 2
  | .smem => 0
  | _ => 0

abbrev bufTy : (tb : Table) → Fin (tcTables nBuf tb) → BufTy
  | .hbm, ⟨0, _⟩ => ⟨S2x896x4096, .fp8e4m3⟩
  | .hbm, ⟨1, _⟩ => ⟨S2x896, .f32⟩
  | .hbm, ⟨2, _⟩ => ⟨S2, .i32⟩
  | .hbm, ⟨3, _⟩ => ⟨S896, .i32⟩
  | .hbm, ⟨4, _⟩ => ⟨S2x896x896, .f32⟩
  | .hbm, ⟨5, _⟩ => ⟨S2x896x1, .f32⟩
  | .hbm, ⟨6, _⟩ => ⟨S2x1x896, .f32⟩
  | .hbm, ⟨7, _⟩ => ⟨S2x896x896, .f32⟩
  | .hbm, ⟨8, _⟩ => ⟨S2x896x896, .f32⟩
  | .hbm, ⟨9, _⟩ => ⟨S2x896x896, .f32⟩
  | .hbm, ⟨10, _⟩ => ⟨S2x896x896, .f32⟩
  | .hbm, ⟨11, _⟩ => ⟨S2x1, .i32⟩
  | .hbm, ⟨12, _⟩ => ⟨S1x1x896, .i32⟩
  | .hbm, ⟨13, _⟩ => ⟨S1x896x1, .i32⟩
  | .hbm, ⟨14, _⟩ => ⟨S1x896x896, .i32⟩
  | .hbm, ⟨15, _⟩ => ⟨S1x896x896, .i32⟩
  | .hbm, ⟨16, _⟩ => ⟨S1x896x896, .i1⟩
  | .hbm, ⟨17, _⟩ => ⟨S1x1x896, .i32⟩
  | .hbm, ⟨18, _⟩ => ⟨S2x1x1, .i32⟩
  | .hbm, ⟨19, _⟩ => ⟨S2x1x896, .i32⟩
  | .hbm, ⟨20, _⟩ => ⟨S2x1x896, .i32⟩
  | .hbm, ⟨21, _⟩ => ⟨S2x1x896, .i1⟩
  | .hbm, ⟨22, _⟩ => ⟨S2x896x896, .i1⟩
  | .hbm, ⟨23, _⟩ => ⟨S2x896x896, .i1⟩
  | .hbm, ⟨24, _⟩ => ⟨S2x896x896, .i1⟩
  | .hbm, ⟨25, _⟩ => ⟨S_, .f32⟩
  | .hbm, ⟨26, _⟩ => ⟨S_, .f32⟩
  | .hbm, ⟨27, _⟩ => ⟨S2x896x896, .f32⟩
  | .hbm, ⟨28, _⟩ => ⟨S2x896x896, .f32⟩
  | .hbm, ⟨29, _⟩ => ⟨S_, .f32⟩
  | .hbm, ⟨30, _⟩ => ⟨S2x896, .f32⟩
  | .hbm, ⟨31, _⟩ => ⟨S1x896, .i32⟩
  | .hbm, ⟨32, _⟩ => ⟨S_, .i32⟩
  | .hbm, ⟨33, _⟩ => ⟨S1x896, .i32⟩
  | .hbm, ⟨34, _⟩ => ⟨S1x896, .i1⟩
  | .hbm, ⟨35, _⟩ => ⟨S1x896, .i32⟩
  | .hbm, ⟨36, _⟩ => ⟨S2x896, .i32⟩
  | .hbm, ⟨37, _⟩ => ⟨S2x896, .i32⟩
  | .hbm, ⟨38, _⟩ => ⟨S2x896, .i1⟩
  | .hbm, ⟨39, _⟩ => ⟨S2x896, .i1⟩
  | .hbm, ⟨40, _⟩ => ⟨S2x896, .i1⟩
  | .hbm, ⟨41, _⟩ => ⟨S_, .f32⟩
  | .hbm, ⟨42, _⟩ => ⟨S_, .f32⟩
  | .hbm, ⟨43, _⟩ => ⟨S2x896, .f32⟩
  | .hbm, ⟨44, _⟩ => ⟨S2x896, .f32⟩
  | .local _ .vmem, ⟨0, _⟩ => ⟨S2x896x4096, .fp8e4m3⟩
  | .local _ .vmem, ⟨1, _⟩ => ⟨S2x896x896, .f32⟩
  | _, _ => ⟨S2x896x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v33 : Ref sig .tc := ⟨.hbm, 44, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x896x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelKit.lean ====
/- What a proof about the launch of `Kernel`'s one pallas_call needs before the body is looked at: where the pipeline
   fetches and writes back, @main around the region, the prefetched table of cluster sizes read off the launch memory,
   the windows' blocks, and the frame from a run. -/
module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%1)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (result 0 (%2)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_semdedup_max_sim (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c))⟩) h

/-! ## The kernel body on any staging memrefs: a subtype the run finds -/

/-- One staging buffer of output window 3, through which its contents are stated (`View.read_writes_of_cover`: the
    choice does not matter). -/
abbrev VO0_3 : View sig .tc .vmem S1x1x896 .f32 := (Memref.whole cc0_stg3_0 : Memref sig .tc .vmem S1x1x896 .f32).view
/-- Each window's current staging memref at point `t`, spelled as the pipeline passes it (`bodyAt0`), and its wholeness. -/
abbrev ms0_0 (hO : Ok m) (t : Fin (cfgM m hO).N) : Memref sig .tc .vmem S1x896x4096 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x896 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x896x1 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x896 .f32 := spec0_3.stage ((cfgM m hO).slots t 3)
abbrev hs0_3 (hO : Ok m) (t : Fin (cfgM m hO).N) : (ms0_3 m hO t).IsWhole := hstage0_3 (((cfgM m hO).slots t 3).cast nbuf0_3)

end Cert.Kernel.Hand

end
-- ==== Proof.Guarded.lean ====
/- What a buffer reads as after two stores to one box, exactly one of which is made, and after such pairs of stores have
   covered it. -/
module

public import Idealize.ShloMosaic.Lib.Pipeline.FrameBody
public import Idealize.ShloMosaic.Lib.WordCmp

@[expose] public section

noncomputable section

namespace Cert.Guarded

open Idealize.ShloMosaic

variable {sig : RefSig} {κ : Kind} {sp : Space} {s : Shape} {e : EltTy} {Val : EltTy → Type}

/-- A write to a box reads back as the box's new contents laid over the old ones. -/
theorem read_write (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, r.overlay_emb]
  · rw [r.overlay_of_not_mem _ _ hy, View.writes_cons,
      View.read_slice_write_of_not_mem r _ _ _ (by rwa [Rect.map_emb_univ])]
    rfl

/-- Two guarded writes to one box whose guards exclude each other and cover every case: the box holds what the
    first writes where the first guard holds, and what the second writes otherwise. -/
theorem read_pair (v : View sig κ sp s e) {c c' : Prop} [Decidable c] [Decidable c'] (h : c' ↔ ¬c)
    (f : v.ty.Contents Val) (r : Rect s) (w w' : r.shape.Idx → Val e) :
    v.read Val (if _ : c' then v.writes Val (if _ : c then v.writes Val f [⟨r, w⟩] else f) [⟨r, w'⟩]
        else (if _ : c then v.writes Val f [⟨r, w⟩] else f))
      = r.overlay (v.read Val f) (if c then w else w') := by
  by_cases hc : c
  · simp only [h, hc, not_true_eq_false, dite_false, dite_true, if_true]; exact read_write v f r w
  · simp only [h, hc, not_false_eq_true, dite_false, dite_true, if_false]; exact read_write v f r w'

/-- Boxes laid over any contents, one after the other, leave the canonical contents where the boxes cover. -/
theorem foldr_overlay_eq_canon [∀ e, Nonempty (Val e)] (X : s.Idx → Val e) (L : List (View.Piece Val s e))
    (hL : ∀ y, ∃ p ∈ L, y ∈ p.1.set) : L.foldr (fun p Y => p.1.overlay Y p.2) X = View.canon L := by
  have key : ∀ (L : List (View.Piece Val s e)) (y : s.Idx), (∃ p ∈ L, y ∈ p.1.set) →
      L.foldr (fun p Y => p.1.overlay Y p.2) X y = View.canon L y := by
    intro L
    induction L with
    | nil => rintro y ⟨_, hm, _⟩; exact absurd hm List.not_mem_nil
    | cons p L ih =>
      intro y hy
      rw [List.foldr_cons]
      by_cases hp : y ∈ p.1.set
      · obtain ⟨r, w⟩ := p
        obtain ⟨x, rfl⟩ : ∃ x, r.emb x = y := r.exists_idx_of_mem hp
        rw [View.canon_cons_emb]; exact r.overlay_emb _ _ x
      · rw [View.canon_cons_of_not_mem p L hp, ← ih y]
        · exact p.1.overlay_of_not_mem _ _ hp
        · obtain ⟨q, hm, hq⟩ := hy
          rcases List.mem_cons.mp hm with rfl | hm
          · exact absurd hq hp
          · exact ⟨q, hm, hq⟩
  exact funext fun y => key L y (hL y)

/-- A guard printed as "the comparison's bit, widened, is not zero" holds exactly when the comparison does. -/
theorem guard_iff (p : Prop) [Decidable p] :
    Scalar.cmpi .ne (Scalar.extui (BitVec.ofBool (decide p)) : BitVec 32) 0#32 = 1#1 ↔ p := by
  by_cases h : p <;> simp [h] <;> decide

/-- The guard `k < v` of signed words. -/
theorem guard_sgt (v k : BitVec 32) :
    Scalar.cmpi .ne (Scalar.extui (Scalar.cmpi .sgt v k) : BitVec 32) 0#32 = 1#1 ↔ k.toInt < v.toInt :=
  guard_iff _

/-- The guard `v ≤ k` of signed words. -/
theorem guard_sle (v k : BitVec 32) :
    Scalar.cmpi .ne (Scalar.extui (Scalar.cmpi .sle v k) : BitVec 32) 0#32 = 1#1 ↔ v.toInt ≤ k.toInt :=
  guard_iff _

/-- The two guards of one tile exclude each other and cover every case. -/
theorem guard_pair (v k : BitVec 32) :
    Scalar.cmpi .ne (Scalar.extui (Scalar.cmpi .sle v k) : BitVec 32) 0#32 = 1#1
      ↔ ¬Scalar.cmpi .ne (Scalar.extui (Scalar.cmpi .sgt v k) : BitVec 32) 0#32 = 1#1 := by
  rw [guard_sgt, guard_sle, Int.not_lt]

end Cert.Guarded

end
-- ==== Proof.KernelRun.lean ====
/- The body of `Kernel`'s pallas_call at one grid point: what it leaves in the output's staging buffer, as a function of
   the size word it reads and of the three blocks it is handed. -/
module

public import proofs.«01_k».proof.Proof.KernelKit
public import proofs.«01_k».proof.Proof.Guarded

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cluster-size word the body reads from the table's contents `xt` at grid point `i`. -/
abbrev word (i : grid0.Coords) {c : Dev nD} (xt : TbBuf0 (F := F) c tbM0_0) : BitVec 32 :=
  tbM0_0.view.readAt (Elt F) (Rect.unit (s := S2) (k0_off1 i) S1.size (k0_off1_inb i)).toLoadRect xt (Shape.Idx.first (numel1_S1.symm ▸ Nat.one_pos))

/-! ## What each query tile is given

Tile `q` covers queries `128 q` to `128 q + 127`. It is given the maxima computed from rows below `128 (q + 1)` when the
cluster is longer than `128 q`, and zeros otherwise. -/

/-- Tile 0: queries 0 to 127. -/
def tile0 (v1 : BitVec 32) (x0 : Vec F S1x896x4096 .fp8e4m3) (x1 : Vec F S1x1x896 .f32) (x2 : Vec F S1x896x1 .f32) : Vec F S1x1x128 .f32 :=
  if k0_cond1 v1 = 1#1 then k0_pay6 v1
    (View.ld x0 (Rect.unit (s := S1x896x4096) ![0, 0, 0] S1x128x4096.size inb_S1x896x4096_S1x128x4096_0_0_0))
    (View.ld x0 (Rect.unit (s := S1x896x4096) ![0, 0, 0] S1x128x4096.size inb_S1x896x4096_S1x128x4096_0_0_0))
    (View.ld x2 (Rect.unit (s := S1x896x1) ![0, 0, 0] S1x128x1.size inb_S1x896x1_S1x128x1_0_0_0))
    (View.ld x1 (Rect.unit (s := S1x1x896) ![0, 0, 0] S1x1x128.size inb_S1x1x896_S1x1x128_0_0_0))
  else k0_pay7
/-- Tile 1: queries 128 to 255. -/
def tile1 (v1 : BitVec 32) (x0 : Vec F S1x896x4096 .fp8e4m3) (x1 : Vec F S1x1x896 .f32) (x2 : Vec F S1x896x1 .f32) : Vec F S1x1x128 .f32 :=
  if k0_cond3 v1 = 1#1 then k0_pay8 v1
    (View.ld x0 (Rect.unit (s := S1x896x4096) ![0, 0, 0] S1x256x4096.size inb_S1x896x4096_S1x256x4096_0_0_0))
    (View.ld x0 (Rect.unit (s := S1x896x4096) ![0, 128, 0] S1x128x4096.size inb_S1x896x4096_S1x128x4096_0_128_0))
    (View.ld x2 (Rect.unit (s := S1x896x1) ![0, 0, 0] S1x256x1.size inb_S1x896x1_S1x256x1_0_0_0))
    (View.ld x1 (Rect.unit (s := S1x1x896) ![0, 0, 128] S1x1x128.size inb_S1x1x896_S1x1x128_0_0_128))
  else k0_pay9
/-- Tile 2: queries 256 to 383. -/
def tile2 (v1 : BitVec 32) (x0 : Vec F S1x896x4096 .fp8e4m3) (x1 : Vec F S1x1x896 .f32) (x2 : Vec F S1x896x1 .f32) : Vec F S1x1x128 .f32 :=
  if k0_cond5 v1 = 1#1 then k0_pay10 v1
    (View.ld x0 (Rect.unit (s := S1x896x4096) ![0, 0, 0] S1x384x4096.size inb_S1x896x4096_S1x384x4096_0_0_0))
    (View.ld x0 (Rect.unit (s := S1x896x4096) ![0, 256, 0] S1x128x4096.size inb_S1x896x4096_S1x128x4096_0_256_0))
    (View.ld x2 (Rect.unit (s := S1x896x1) ![0, 0, 0] S1x384x1.size inb_S1x896x1_S1x384x1_0_0_0))
    (View.ld x1 (Rect.unit (s := S1x1x896) ![0, 0, 256] S1x1x128.size inb_S1x1x896_S1x1x128_0_0_256))
  else k0_pay11
/-- Tile 3: queries 384 to 511. -/
def tile3 (v1 : BitVec 32) (x0 : Vec F S1x896x4096 .fp8e4m3) (x1 : Vec F S1x1x896 .f32) (x2 : Vec F S1x896x1 .f32) : Vec F S1x1x128 .f32 :=
  if k0_cond7 v1 = 1#1 then k0_pay12 v1
    (View.ld x0 (Rect.unit (s := S1x896x4096) ![0, 0, 0] S1x512x4096.size inb_S1x896x4096_S1x512x4096_0_0_0))
    (View.ld x0 (Rect.unit (s := S1x896x4096) ![0, 384, 0] S1x128x4096.size inb_S1x896x4096_S1x128x4096_0_384_0))
    (View.ld x2 (Rect.unit (s := S1x896x1) ![0, 0, 0] S1x512x1.size inb_S1x896x1_S1x512x1_0_0_0))
    (View.ld x1 (Rect.unit (s := S1x1x896) ![0, 0, 384] S1x1x128.size inb_S1x1x896_S1x1x128_0_0_384))
  else k0_pay13
/-- Tile 4: queries 512 to 639. -/
def tile4 (v1 : BitVec 32) (x0 : Vec F S1x896x4096 .fp8e4m3) (x1 : Vec F S1x1x896 .f32) (x2 : Vec F S1x896x1 .f32) : Vec F S1x1x128 .f32 :=
  if k0_cond9 v1 = 1#1 then k0_pay14 v1
    (View.ld x0 (Rect.unit (s := S1x896x4096) ![0, 0, 0] S1x640x4096.size inb_S1x896x4096_S1x640x4096_0_0_0))
    (View.ld x0 (Rect.unit (s := S1x896x4096) ![0, 512, 0] S1x128x4096.size inb_S1x896x4096_S1x128x4096_0_512_0))
    (View.ld x2 (Rect.unit (s := S1x896x1) ![0, 0, 0] S1x640x1.size inb_S1x896x1_S1x640x1_0_0_0))
    (View.ld x1 (Rect.unit (s := S1x1x896) ![0, 0, 512] S1x1x128.size inb_S1x1x896_S1x1x128_0_0_512))
  else k0_pay1
/-- Tile 5: queries 640 to 767. -/
def tile5 (v1 : BitVec 32) (x0 : Vec F S1x896x4096 .fp8e4m3) (x1 : Vec F S1x1x896 .f32) (x2 : Vec F S1x896x1 .f32) : Vec F S1x1x128 .f32 :=
  if k0_cond11 v1 = 1#1 then k0_pay2 v1
    (View.ld x0 (Rect.unit (s := S1x896x4096) ![0, 0, 0] S1x768x4096.size inb_S1x896x4096_S1x768x4096_0_0_0))
    (View.ld x0 (Rect.unit (s := S1x896x4096) ![0, 640, 0] S1x128x4096.size inb_S1x896x4096_S1x128x4096_0_640_0))
    (View.ld x2 (Rect.unit (s := S1x896x1) ![0, 0, 0] S1x768x1.size inb_S1x896x1_S1x768x1_0_0_0))
    (View.ld x1 (Rect.unit (s := S1x1x896) ![0, 0, 640] S1x1x128.size inb_S1x1x896_S1x1x128_0_0_640))
  else k0_pay3
/-- Tile 6: queries 768 to 895. -/
def tile6 (v1 : BitVec 32) (x0 : Vec F S1x896x4096 .fp8e4m3) (x1 : Vec F S1x1x896 .f32) (x2 : Vec F S1x896x1 .f32) : Vec F S1x1x128 .f32 :=
  if k0_cond13 v1 = 1#1 then k0_pay4 v1
    (View.ld x0 (Rect.unit (s := S1x896x4096) ![0, 0, 0] S1x896x4096.size inb_S1x896x4096_S1x896x4096_0_0_0))
    (View.ld x0 (Rect.unit (s := S1x896x4096) ![0, 768, 0] S1x128x4096.size inb_S1x896x4096_S1x128x4096_0_768_0))
    (View.ld x2 (Rect.unit (s := S1x896x1) ![0, 0, 0] S1x896x1.size inb_S1x896x1_S1x896x1_0_0_0))
    (View.ld x1 (Rect.unit (s := S1x1x896) ![0, 0, 768] S1x1x128.size inb_S1x1x896_S1x1x128_0_0_768))
  else k0_pay5

/-- The seven tiles, each with the box of the output block it fills; the last one stored first. -/
def pieces (v1 : BitVec 32) (x0 : Vec F S1x896x4096 .fp8e4m3) (x1 : Vec F S1x1x896 .f32) (x2 : Vec F S1x896x1 .f32) : List (View.Piece (Elt F) S1x1x896 .f32) :=
  [⟨Rect.unit (s := S1x1x896) ![0, 0, 768] S1x1x128.size inb_S1x1x896_S1x1x128_0_0_768, tile6 v1 x0 x1 x2⟩,
   ⟨Rect.unit (s := S1x1x896) ![0, 0, 640] S1x1x128.size inb_S1x1x896_S1x1x128_0_0_640, tile5 v1 x0 x1 x2⟩,
   ⟨Rect.unit (s := S1x1x896) ![0, 0, 512] S1x1x128.size inb_S1x1x896_S1x1x128_0_0_512, tile4 v1 x0 x1 x2⟩,
   ⟨Rect.unit (s := S1x1x896) ![0, 0, 384] S1x1x128.size inb_S1x1x896_S1x1x128_0_0_384, tile3 v1 x0 x1 x2⟩,
   ⟨Rect.unit (s := S1x1x896) ![0, 0, 256] S1x1x128.size inb_S1x1x896_S1x1x128_0_0_256, tile2 v1 x0 x1 x2⟩,
   ⟨Rect.unit (s := S1x1x896) ![0, 0, 128] S1x1x128.size inb_S1x1x896_S1x1x128_0_0_128, tile1 v1 x0 x1 x2⟩,
   ⟨Rect.unit (s := S1x1x896) ![0, 0, 0] S1x1x128.size inb_S1x1x896_S1x1x128_0_0_0, tile0 v1 x0 x1 x2⟩]

/-- The seven boxes tile the output block. -/
theorem pieces_cover (v1 : BitVec 32) (x0 : Vec F S1x896x4096 .fp8e4m3) (x1 : Vec F S1x1x896 .f32) (x2 : Vec F S1x896x1 .f32) (y : S1x1x896.Idx) :
    ∃ p ∈ pieces v1 x0 x1 x2, y ∈ p.1.set :=
  View.cover_of_tiledL (pieces v1 x0 x1 x2) S1x1x128.size (by sl_kernel_rfl) y

/-- What the body leaves in the output's staging buffer. -/
def outBlk (v1 : BitVec 32) (x0 : Vec F S1x896x4096 .fp8e4m3) (x1 : Vec F S1x1x896 .f32) (x2 : Vec F S1x896x1 .f32) : Vec F S1x1x896 .f32 :=
  View.canon (pieces v1 x0 x1 x2)

/-- Each tile's two guards exclude each other and cover every case. -/
theorem guards (v : BitVec 32) : (k0_cond2 v = 1#1 ↔ ¬k0_cond1 v = 1#1) ∧ (k0_cond4 v = 1#1 ↔ ¬k0_cond3 v = 1#1) ∧ (k0_cond6 v = 1#1 ↔ ¬k0_cond5 v = 1#1) ∧ (k0_cond8 v = 1#1 ↔ ¬k0_cond7 v = 1#1) ∧ (k0_cond10 v = 1#1 ↔ ¬k0_cond9 v = 1#1) ∧ (k0_cond12 v = 1#1 ↔ ¬k0_cond11 v = 1#1) ∧ (k0_cond14 v = 1#1 ↔ ¬k0_cond13 v = 1#1) :=
  ⟨Cert.Guarded.guard_pair v 0#32, Cert.Guarded.guard_pair v 128#32, Cert.Guarded.guard_pair v 256#32, Cert.Guarded.guard_pair v 384#32, Cert.Guarded.guard_pair v 512#32, Cert.Guarded.guard_pair v 640#32, Cert.Guarded.guard_pair v 768#32⟩

/-- Reading a box of a whole buffer holding the block `X` reads `X` there. -/
theorem readAt_unread {sp : Space} {s : Shape} {e : EltTy} {M : Memref sig .tc sp s e} (h : M.IsWhole) (X : s.Idx → Elt F e) (r : Rect s) :
    M.view.readAt (Elt F) r.toLoadRect (h.unread X) = View.ld X r := by
  rw [View.readAt_eq_ld, h.read_unread]

set_option maxHeartbeats 4000000 in
/-- The body's triple: from the three input blocks and the table, whatever the output's staging buffer holds, the body
    leaves the inputs as they were and `outBlk` in the output's buffer. -/
theorem body_run (c : Dev nD) (i : grid0.Coords) (arg2 : Memref sig .tc .vmem S1x896x4096 .fp8e4m3) (harg2 : arg2.IsWhole) (arg3 : Memref sig .tc .vmem S1x1x896 .f32) (harg3 : arg3.IsWhole) (arg4 : Memref sig .tc .vmem S1x896x1 .f32) (harg4 : arg4.IsWhole) (arg5 : Memref sig .tc .vmem S1x1x896 .f32) (harg5 : arg5.IsWhole)
    (x0 : Vec F S1x896x4096 .fp8e4m3) (x1 : Vec F S1x1x896 .f32) (x2 : Vec F S1x896x1 .f32) (xt0 : TbBuf0 (F := F) c tbM0_0)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare (outBlk (word i xt0) x0 x1 x2) ∗ tbPt0 c tbM0_0 xt0) -∗ K ⟨⟩))
          ⊢ wp frame (wpE (defs₀ (F := F)) Variants.none c none) E (cc0_semdedup_max_sim i tbM0_0 htbM0_0 arg2 harg2 arg3 harg3 arg4 harg4 arg5 harg5) K := by
  intro E K
  simp only [cc0_semdedup_max_sim_eq_skeleton]; unfold cc0_semdedup_max_sim_skel
  unfold owns
  iintro ⟨⟨%f0, %hf0, H0⟩, ⟨%f1, %hf1, H1⟩, ⟨%f2, %hf2, H2⟩, ⟨%d3, %f3, -, H3⟩, HT0, Hk⟩
  obtain rfl := harg2.eq_unread hf0; obtain rfl := harg3.eq_unread hf1; obtain rfl := harg4.eq_unread hf2
  sl_exec
  have hw : body_run.sl.r c i xt0 = word i xt0 := rfl
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [hw]
    obtain ⟨g0, g1, g2, g3, g4, g5, g6⟩ := guards (word i xt0)
    rw [Cert.Guarded.read_pair arg5.view g6]
    rw [Cert.Guarded.read_pair arg5.view g5]
    rw [Cert.Guarded.read_pair arg5.view g4]
    rw [Cert.Guarded.read_pair arg5.view g3]
    rw [Cert.Guarded.read_pair arg5.view g2]
    rw [Cert.Guarded.read_pair arg5.view g1]
    rw [Cert.Guarded.read_pair arg5.view g0]
    simp only [readAt_unread]
    exact Cert.Guarded.foldr_overlay_eq_canon _ (pieces (word i xt0) x0 x1 x2) (pieces_cover _ _ _ _)
  iexact HT0

end Cert.Kernel.Hand

end
-- ==== Proof.KernelFrame.lean ====
/- The launch of `Kernel`: the pipeline's proof data, the body obligation at every grid point, the run of @main and the
   frame. -/
module

public import proofs.«01_k».proof.Proof.KernelRun
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output holds after each point -/

/-- What the body leaves in the output's staging buffer at point `t`: `outBlk` of the size word and the blocks there. -/
def outsAt0 (hO : Ok m) (c : Dev nD) (t : Fin (cfgM m hO).N) : Vec F S1x1x896 .f32 :=
  outBlk (word (grid0.coords t) (c := c) (tbl m 0)) (iblk m hO c 0 t) (iblk m hO c 1 t) (iblk m hO c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 6400000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  unfold outsAt0
  iintro ⟨⟨HΦ, HT0⟩, Ho, ⟨%d0, H0⟩, ⟨%d1, H1⟩, ⟨%d2, H2⟩, ⟨%d3, H3⟩⟩
  iapply (body_run c (grid0.coords t) _ _ _ _ _ _ _ _ (iblk m hO c 0 t) (iblk m hO c 1 t) (iblk m hO c 2 t) (tbl m 0) Set.univ _)
  isplitl [H0]; · iexact H0
  isplitl [H1]; · iexact H1
  isplitl [H2]; · iexact H2
  isplitl [H3]; · iexists _; iexact H3
  isplitl [HT0]; · iexact HT0
  iintro ⟨H0, H1, H2, H3, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output's buffer is stored at every point, whatever the table holds: one of the first tile's two guards holds. -/
theorem idle0_3 (pf : pre0.Contents (Elt F)) (i : grid0.Coords) : idle0 pf 3 i = false := by
  by_cases h : k0_cond1 (pf.atD 0 (k0_off1 i)) = 1#1
  · simp [idle0, h]
  · simp [idle0, (guards (pf.atD 0 (k0_off1 i))).1.mpr h]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  have hi := idle0_3 (F := F) (tbl m) (grid0.coords t)
  refine triple_restated (sound_body m hO c t) rfl .rfl fun _ => ?_
  dsimp only
  split
  · rename_i h; exact absurd (hi.symm.trans h) Bool.false_ne_true
  · exact .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame: from any memory with zero counters every run of @main ends, the arguments as they were and every counter
    at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.Kernel.Hand

end
-- ==== Proof.Idealized.lean ====
/- The idealized kernel is the kernel's own text read at the ideal instance: its printed program and its
   body table ARE the kernel's at extended reals, so every run of the one is a run of the other. -/
module

public import proofs.«01_k».proof.Proof.KernelFrame
public import proofs.«01_k».proof.Proof.Gen.KernelIdeal
public import proofs.«01_k».proof.Defs

@[expose] public section

noncomputable section

namespace Cert.Idealized

open Idealize.ShloMosaic Idealize.SL.Sem

attribute [local instance] Cert.Kernel.Gen.facts Cert.KernelIdeal.Gen.facts

/-- The two body tables agree: label by label they run one function. -/
theorem defs₀_eq : Cert.KernelIdeal.defs₀ (F := Ideal) = Cert.Kernel.defs₀ (F := Ideal) :=
  funext fun k => match k with
    | .tc => funext fun l => match l with
      | 0 => funext fun (_, _) => rfl
    | .scScalar _ => rfl
    | .scVector _ _ => rfl

/-- The programs' tables, with the pipeline's labels beside the body's, agree. -/
theorem defs_eq : Cert.KernelIdeal.defs (F := Ideal) = Cert.Kernel.defs (F := Ideal) :=
  congrArg (Pipeline.defs Cert.Kernel.pcfgs) defs₀_eq

/-- What holds after every run of the kernel at extended reals holds after every run of the idealized kernel. -/
theorem run_of (m : (ℓ : Loc Cert.Kernel.nD Cert.Kernel.τ Cert.Kernel.sig) → Buf (Elt Ideal) ℓ)
    (g : Dev Cert.Kernel.nD → PrngReg) (P : _ → Prop)
    (h : θ_run (Cert.Kernel.defs (F := Ideal)) (onTc (τ := Cert.Kernel.τ) (Cert.Kernel.main (F := Ideal))) ⟨m, fun _ => 0, g⟩ P) :
    θ_run (Cert.KernelIdeal.defs (F := Ideal)) (onTc (τ := Cert.KernelIdeal.τ) (Cert.KernelIdeal.main (F := Ideal))) ⟨m, fun _ => 0, g⟩ P := by
  rw [defs_eq]; exact h

end Cert.Idealized

end
-- ==== Proof.Spec.lean ====
/- What both programs compute, stated of the argument arrays and naming no program: for each row of a cluster, the
   greatest scaled inner product with an earlier row of the same cluster. -/
module

public import Idealize.ShloMosaic.PureOps.Ideal
public import Idealize.ShloMosaic.Lib.ValueIdx

@[expose] public section

noncomputable section

namespace Cert.Spec

open Idealize.ShloMosaic Idealize.ShloMosaic.ValueIdx

/-- The greatest of `f j` over the rows `j` below `p`; `-∞` when there is none. -/
def best (f : Fin 896 → EReal) (p : ℕ) : EReal :=
  (Finset.univ : Finset (Fin 896)).fold max ⊥ fun j => if j.val < p then f j else ⊥

/-- Row `p`'s result in a cluster of `size` rows: `best` where the row has a predecessor and is in the cluster, else 0. -/
def maxSim (size : ℤ) (f : Fin 896 → EReal) (p : ℕ) : EReal :=
  if 1 ≤ p ∧ (p : ℤ) < size then best f p else 0

/-- The scaled inner product of rows `j` and `i` of a cluster with codes `C` and scales `S`. -/
def sim (C : Fin 896 → Fin 4096 → EReal) (S : Fin 896 → EReal) (j i : Fin 896) : EReal :=
  (∑ k, C j k * C i k) * (S j * S i)

/-- The whole result, of the codes `C`, the scales `S` and the cluster sizes `Z`. -/
def G (C : (⟨3, ![2, 896, 4096]⟩ : Shape).Idx → EReal) (S : (⟨2, ![2, 896]⟩ : Shape).Idx → EReal)
    (Z : (⟨1, ![2]⟩ : Shape).Idx → BitVec 32) (y : (⟨2, ![2, 896]⟩ : Shape).Idx) : EReal :=
  maxSim (Z (ix1 (n := 2) (y 0))).toInt
    (fun j => sim (fun r k => C (ix3 (n0 := 2) (y 0) r k)) (fun r => S (ix2 (n0 := 2) (y 0) r)) j (y 1)) (y 1).val

/-- The scaled inner product is the same either way round. -/
theorem sim_comm (C : Fin 896 → Fin 4096 → EReal) (S : Fin 896 → EReal) (j i : Fin 896) : sim C S j i = sim C S i j := by
  unfold sim
  rw [mul_comm (S j)]
  exact congrArg (· * _) (Finset.sum_congr rfl fun k _ => mul_comm _ _)

/-- Looking only at the first `R` rows loses nothing once `p ≤ R`. -/
theorem fold_prefix {R : ℕ} (hR : R ≤ 896) {p : ℕ} (hp : p ≤ R) (f : Fin 896 → EReal) :
    ((Finset.univ : Finset (Fin R)).fold max ⊥ fun j => if j.val < p then f (j.castLE hR) else ⊥) = best f p := by
  show (Finset.univ : Finset (Fin R)).sup _ = (Finset.univ : Finset (Fin 896)).sup _
  apply le_antisymm
  · refine Finset.sup_le fun j _ => ?_
    exact Finset.le_sup (f := fun j : Fin 896 => if j.val < p then f j else ⊥) (Finset.mem_univ (j.castLE hR))
  · refine Finset.sup_le fun j _ => ?_
    by_cases h : j.val < p
    · exact Finset.le_sup (f := fun j : Fin R => if j.val < p then f (j.castLE hR) else ⊥)
        (Finset.mem_univ (⟨j.val, lt_of_lt_of_le h hp⟩ : Fin R))
    · rw [if_neg h]; exact bot_le

/-- Asking besides that the earlier row lie in the cluster changes nothing for a row in the cluster. -/
theorem fold_masked {size : ℤ} {p : ℕ} (hp : (p : ℤ) < size) (f : Fin 896 → EReal) :
    ((Finset.univ : Finset (Fin 896)).fold max ⊥ fun j => if j.val < p ∧ (j.val : ℤ) < size then f j else ⊥) = best f p := by
  unfold best
  congr 1
  funext j
  by_cases h : j.val < p
  · rw [if_pos h, if_pos ⟨h, by omega⟩]
  · rw [if_neg h, if_neg fun h' => h h'.1]

end Cert.Spec

end
-- ==== Proof.TileValue.lean ====
/- One query tile's arithmetic at extended reals, over any number `R` of rows compared against and any first query `q`:
   the maxima it computes, read at one query, are the specification's. -/
module

public import proofs.«01_k».proof.Proof.Spec
public import Idealize.ShloMosaic.Lib.MatmulPlain
public import Idealize.ShloMosaic.Lib.ValueLayout
public import Idealize.ShloMosaic.Lib.WordCmp
public import Idealize.ShloMosaic.Lib.Pipeline.ValueKit.Tiles
public import Idealize.ShloMosaic.PureOps.Ideal.Laws

@[expose] public section

noncomputable section

namespace Cert.TileValue

open Idealize.ShloMosaic Idealize.ShloMosaic.ValueIdx Idealize.ShloMosaic.WordCmp Cert.Spec

/-- The word of minus infinity denotes the least extended real. -/
theorem ofBits_neg_inf : Ideal.ofBits .f32 0xFF800000#32 = ⊥ := by simp [Ideal.ofBits, Ideal.ieee]

/-- A column broadcast along the rows reads, at row `p`, the column's entry `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- A position word `q + c` read signed. -/
theorem pos_toInt {q c : ℕ} (h : q + c < 2 ^ 31) :
    (IntOp.addi (BitVec.ofNat 32 c) (BitVec.ofNat 32 q)).toInt = ((q + c : ℕ) : ℤ) := by
  show (BitVec.ofNat 32 c + BitVec.ofNat 32 q).toInt = _
  rw [← BitVec.ofNat_add, Nat.add_comm c q]
  exact toInt_ofNat_of_lt h

/-- Selecting on a decided bit is the `if`. -/
theorem select_ofBool {α : Type} (p : Prop) [Decidable p] (a b : α) :
    Scalar.select (BitVec.ofBool (decide p)) a b = if p then a else b := by
  by_cases h : p <;> simp [h, Scalar.select]

/-- The inserted index of a maximum over the rows of a matrix. -/
theorem lift_rows {R : ℕ} (h : (⟨2, ![R, 128]⟩ : Shape).Reduces [0] ⟨1, ![128]⟩) (c : Fin 128) (j : Fin R) :
    h.lift (ix1 c) j = ix2 j c := by
  funext a
  match a with
  | ⟨0, _⟩ => rfl
  | ⟨1, _⟩ => rfl

/-- A kernel's maximum over the rows of a matrix, at a column: the greatest entry of the column. -/
theorem max_rows {R : ℕ} (src : FVec Ideal ⟨2, ![R, 128]⟩ .f32) (h : (⟨2, ![R, 128]⟩ : Shape).Reduces [0] ⟨1, ![128]⟩)
    (hφ : FKind.Formats .f32) (hacc : (0xFF800000#32 : BitVec FTy.f32.bits) = FKind.maximumf.neutral .f32 hφ) (c : Fin 128) :
    multiReduction .maximumf [0] ⟨1, ![128]⟩ src 0xFF800000#32 h hφ hacc (ix1 c)
      = (Finset.univ : Finset (Fin R)).fold max (⊥ : EReal) fun j => src (ix2 j c) := by
  refine (Ideal.multiReduction_maximumf_single src _ h hφ hacc (ix1 c)).trans ?_
  have hb : (FloatOps.ofBits .f32 0xFF800000#32 : Ideal .f32) = (⊥ : EReal) := ofBits_neg_inf
  rw [hb]
  exact congrArg (fun f => Finset.fold max (⊥ : EReal) f (Finset.univ : Finset (Fin R)))
    (funext fun j => congrArg src (lift_rows h c j))

/-- The queries of a tile that are past the cluster's first row and inside the cluster, as the kernel finds them. -/
def inside (q : BitVec 32) (i66 : (⟨2, ![1, 128]⟩ : Shape).Iotas .tc 32 [1]) (v1 : BitVec 32) : IVec ⟨2, ![1, 128]⟩ 1 :=
  andi
    (cmpi .sge (addi (iota .tc ⟨2, ![1, 128]⟩ 32 [1] i66) (broadcast ⟨2, ![1, 128]⟩ q)) (broadcast ⟨2, ![1, 128]⟩ 1#32))
    (cmpi .slt (addi (iota .tc ⟨2, ![1, 128]⟩ 32 [1] i66) (broadcast ⟨2, ![1, 128]⟩ q)) (broadcast ⟨2, ![1, 128]⟩ v1))

/-- Query `c` of the tile that starts at `q` passes when `1 ≤ q + c` and `q + c` is below the cluster's size. -/
theorem inside_apply {q : ℕ} (hq : q ≤ 768) (i66) (v1 : BitVec 32) (c : Fin 128) :
    inside (BitVec.ofNat 32 q) i66 v1 (ix2 (0 : Fin 1) c)
      = BitVec.ofBool (decide (1 ≤ q + c.val ∧ ((q + c.val : ℕ) : ℤ) < v1.toInt)) := by
  have hc := c.isLt
  have hpos : (IntOp.addi (BitVec.ofNat 32 c.val) (BitVec.ofNat 32 q)).toInt = ((q + c.val : ℕ) : ℤ) := pos_toInt (by omega)
  show IntOp.andi (IntOp.cmpi .sge (IntOp.addi (iota .tc ⟨2, ![1, 128]⟩ 32 [1] i66 (ix2 (0 : Fin 1) c)) (BitVec.ofNat 32 q)) 1#32)
      (IntOp.cmpi .slt (IntOp.addi (iota .tc ⟨2, ![1, 128]⟩ 32 [1] i66 (ix2 (0 : Fin 1) c)) (BitVec.ofNat 32 q)) v1) = _
  rw [iota_single_apply]
  show IntOp.andi (IntOp.cmpi .sge (IntOp.addi (BitVec.ofNat 32 c.val) (BitVec.ofNat 32 q)) 1#32)
      (IntOp.cmpi .slt (IntOp.addi (BitVec.ofNat 32 c.val) (BitVec.ofNat 32 q)) v1) = _
  rw [cmpi_sge_eq, cmpi_slt_eq, hpos, andi_ofBool, ← Bool.decide_and]
  have h1 : (1#32 : BitVec 32).toInt = 1 := by decide
  rw [h1]
  congr 2
  exact propext ⟨fun h => ⟨by omega, h.2⟩, fun h => ⟨by omega, h.2⟩⟩

variable {R : ℕ}

/-- The pairs (row, query) of a tile whose row comes before the query, as the kernel finds them. -/
def before (q : BitVec 32) (i57 : (⟨2, ![R, 128]⟩ : Shape).Iotas .tc 32 [0]) (i58 : (⟨2, ![R, 128]⟩ : Shape).Iotas .tc 32 [1]) :
    IVec ⟨2, ![R, 128]⟩ 1 :=
  cmpi .slt (iota .tc ⟨2, ![R, 128]⟩ 32 [0] i57)
    (addi (iota .tc ⟨2, ![R, 128]⟩ 32 [1] i58) (broadcast ⟨2, ![R, 128]⟩ q))

/-- Row `j` comes before query `c` of the tile that starts at `q` when `j < q + c`. -/
theorem before_apply {q : ℕ} (hq : q ≤ 768) (hR : R ≤ 896) (i57 i58) (j : Fin R) (c : Fin 128) :
    before (R := R) (BitVec.ofNat 32 q) i57 i58 (ix2 j c) = BitVec.ofBool (decide (j.val < q + c.val)) := by
  have hc := c.isLt
  have hjl := j.isLt
  have hpos : (IntOp.addi (BitVec.ofNat 32 c.val) (BitVec.ofNat 32 q)).toInt = ((q + c.val : ℕ) : ℤ) := pos_toInt (by omega)
  show IntOp.cmpi .slt (iota .tc ⟨2, ![R, 128]⟩ 32 [0] i57 (ix2 j c))
      (IntOp.addi (iota .tc ⟨2, ![R, 128]⟩ 32 [1] i58 (ix2 j c)) (BitVec.ofNat 32 q)) = _
  rw [iota_single_apply, iota_single_apply]
  show IntOp.cmpi .slt (BitVec.ofNat 32 j.val) (IntOp.addi (BitVec.ofNat 32 c.val) (BitVec.ofNat 32 q)) = _
  rw [cmpi_slt_eq, hpos, toInt_ofNat_of_lt (by omega)]
  congr 2
  exact propext Int.ofNat_lt

/-- The scaled inner products of a tile's rows and queries, as the kernel computes them. -/
def scaled (d : DotDims ⟨2, ![R, 4096]⟩ ⟨2, ![128, 4096]⟩ ⟨2, ![R, 128]⟩)
    (s45 : (⟨3, ![1, R, 4096]⟩ : Shape).ShapeCasts ⟨2, ![R, 4096]⟩)
    (s47 : (⟨3, ![1, 128, 4096]⟩ : Shape).ShapeCasts ⟨2, ![128, 4096]⟩)
    (s50 : (⟨3, ![1, R, 1]⟩ : Shape).ShapeCasts ⟨2, ![R, 1]⟩)
    (s52 : (⟨3, ![1, 1, 128]⟩ : Shape).ShapeCasts ⟨2, ![1, 128]⟩)
    (b53 : (⟨2, ![R, 1]⟩ : Shape).Broadcasts ⟨2, ![R, 128]⟩) (b54 : (⟨2, ![1, 128]⟩ : Shape).Broadcasts ⟨2, ![R, 128]⟩)
    (v44 : Vec Ideal ⟨3, ![1, R, 4096]⟩ .fp8e4m3) (v46 : Vec Ideal ⟨3, ![1, 128, 4096]⟩ .fp8e4m3)
    (v49 : Vec Ideal ⟨3, ![1, R, 1]⟩ .f32) (v51 : Vec Ideal ⟨3, ![1, 1, 128]⟩ .f32) : FVec Ideal ⟨2, ![R, 128]⟩ .f32 :=
  mulf
    (matmul (φ₁ := .fp8e4m3) (φ₂ := .fp8e4m3) d none (shapeCast ⟨2, ![R, 4096]⟩ v44 s45) (shapeCast ⟨2, ![128, 4096]⟩ v46 s47)
      (constant ⟨2, ![R, 128]⟩ .f32 0x00000000#32))
    (mulf (broadcastTo ⟨2, ![R, 128]⟩ (shapeCast ⟨2, ![R, 1]⟩ v49 s50) b53)
      (broadcastTo ⟨2, ![R, 128]⟩ (shapeCast ⟨2, ![1, 128]⟩ v51 s52) b54))

/-- The inner products by themselves. -/
theorem dots_apply (A : FVec Ideal ⟨2, ![R, 4096]⟩ .fp8e4m3) (B : FVec Ideal ⟨2, ![128, 4096]⟩ .fp8e4m3) (j : Fin R) (c : Fin 128) :
    matmul (φ₁ := .fp8e4m3) (φ₂ := .fp8e4m3) (DotDims.transposedRhs R 4096 128) none A B
        (constant ⟨2, ![R, 128]⟩ .f32 0x00000000#32) (ix2 j c)
      = ∑ k : Fin 4096, A (ix2 j k) * B (ix2 c k) := by
  refine (Ideal.matmul_transposedRhs_apply none A B _ j c).trans ?_
  rw [constant_apply, Ideal.ofBits_zero_f32, zero_add]

/-- One of them: the inner product of a row's codes and a query's, times the product of their scales. -/
theorem scaled_apply (s45 s47 s50 s52 b53 b54 v44 v46 v49 v51) (j : Fin R) (c : Fin 128) :
    scaled (R := R) (DotDims.transposedRhs R 4096 128) s45 s47 s50 s52 b53 b54 v44 v46 v49 v51 (ix2 j c)
      = (∑ k : Fin 4096, v44 (ix3 (0 : Fin 1) j k) * v46 (ix3 (0 : Fin 1) c k))
          * (v49 (ix3 (0 : Fin 1) j (0 : Fin 1)) * v51 (ix3 (0 : Fin 1) (0 : Fin 1) c)) := by
  unfold scaled
  rw [mulf_apply, mulf_apply, broadcastTo_col_apply, broadcastTo_1b_ab_apply, shapeCast_1ab_ab_apply, shapeCast_1ab_ab_apply,
    dots_apply]
  simp only [shapeCast_1ab_ab_apply]

/-- The tile's arithmetic as the kernel writes it, from its two masks and its scaled inner products. -/
def pay (mi : IVec ⟨2, ![1, 128]⟩ 1) (mb : IVec ⟨2, ![R, 128]⟩ 1) (x : FVec Ideal ⟨2, ![R, 128]⟩ .f32)
    (r64 : (⟨2, ![R, 128]⟩ : Shape).Reduces [0] ⟨1, ![128]⟩)
    (s65 : (⟨1, ![128]⟩ : Shape).ShapeCasts ⟨2, ![1, 128]⟩)
    (s78 : (⟨2, ![1, 128]⟩ : Shape).ShapeCasts ⟨3, ![1, 1, 128]⟩) : FVec Ideal ⟨3, ![1, 1, 128]⟩ .f32 :=
  shapeCast ⟨3, ![1, 1, 128]⟩
    (select mi
      (shapeCast ⟨2, ![1, 128]⟩
        (multiReduction .maximumf [0] ⟨1, ![128]⟩
          (select mb x (broadcast ⟨2, ![R, 128]⟩ (Scalar.ofBits .f32 0xFF800000#32)))
          0xFF800000#32 r64 (.inl rfl) rfl) s65)
      (broadcast ⟨2, ![1, 128]⟩ (Scalar.ofBits .f32 0x00000000#32))) s78

/-- The tile's result at its query `c`: where the first mask passes, the maximum of the column's entries that the second
    mask passes; else 0. -/
theorem pay_apply (mi : IVec ⟨2, ![1, 128]⟩ 1) (mb : IVec ⟨2, ![R, 128]⟩ 1) (x) (r64 s65 s78) (c : Fin 128) :
    pay (R := R) mi mb x r64 s65 s78 (ix3 (0 : Fin 1) (0 : Fin 1) c)
      = Scalar.select (mi (ix2 (0 : Fin 1) c))
          ((Finset.univ : Finset (Fin R)).fold max (⊥ : EReal) fun j => Scalar.select (mb (ix2 j c)) (x (ix2 j c)) (⊥ : EReal))
          (0 : EReal) := by
  unfold pay
  rw [shapeCast_ab_1ab_apply, select_apply, shapeCast_a_1a_apply]
  have h0 : (broadcast ⟨2, ![1, 128]⟩ (Scalar.ofBits .f32 0x00000000#32) : FVec Ideal ⟨2, ![1, 128]⟩ .f32) (ix2 (0 : Fin 1) c) = (0 : EReal) :=
    Ideal.ofBits_zero_f32
  have hm := max_rows (select mb x (broadcast ⟨2, ![R, 128]⟩ (Scalar.ofBits .f32 0xFF800000#32))) r64 (.inl rfl) rfl c
  refine (congrArg₂ (Scalar.select (mi (ix2 (0 : Fin 1) c))) hm h0).trans ?_
  refine congrArg (fun f => Scalar.select (mi (ix2 (0 : Fin 1) c)) (Finset.fold max (⊥ : EReal) f (Finset.univ : Finset (Fin R))) (0 : EReal))
    (funext fun j => ?_)
  rw [select_apply]
  exact congrArg (Scalar.select (mb (ix2 j c)) (x (ix2 j c))) ofBits_neg_inf

/-! ## A tile of one cluster's block -/

/-- A cluster's result at row `p`, of the size word `v1`, the codes `x0` and the scales held as a row `x1` and as a
    column `x2`. -/
def blk (v1 : BitVec 32) (x0 : (⟨3, ![1, 896, 4096]⟩ : Shape).Idx → EReal) (x1 : (⟨3, ![1, 1, 896]⟩ : Shape).Idx → EReal)
    (x2 : (⟨3, ![1, 896, 1]⟩ : Shape).Idx → EReal) (p : Fin 896) : EReal :=
  maxSim v1.toInt (fun j => (∑ k : Fin 4096, x0 (ix3 (0 : Fin 1) j k) * x0 (ix3 (0 : Fin 1) p k))
    * (x2 (ix3 (0 : Fin 1) j (0 : Fin 1)) * x1 (ix3 (0 : Fin 1) (0 : Fin 1) p))) p.val

/-- A tile given the first `R` rows of the cluster and the 128 queries from `q = R - 128` on holds the cluster's results
    at those queries. -/
theorem pay_blk {q : ℕ} (hR : R = q + 128) (hq : q ≤ 768) (s45 s47 s50 s52 b53 b54 i57 i58 r64 s65 i66 s78)
    (v1 : BitVec 32) (x0 : Vec Ideal ⟨3, ![1, 896, 4096]⟩ .fp8e4m3) (x1 : Vec Ideal ⟨3, ![1, 1, 896]⟩ .f32)
    (x2 : Vec Ideal ⟨3, ![1, 896, 1]⟩ .f32) (o1 o2 o3 o4) (c : Fin 128) (p : Fin 896) (hp : p.val = q + c.val) :
    pay (R := R) (inside (BitVec.ofNat 32 q) i66 v1) (before (BitVec.ofNat 32 q) i57 i58)
        (scaled (DotDims.transposedRhs R 4096 128) s45 s47 s50 s52 b53 b54
          (View.ld x0 (Rect.unit (s := ⟨3, ![1, 896, 4096]⟩) ![0, 0, 0] ![1, R, 4096] o1))
          (View.ld x0 (Rect.unit (s := ⟨3, ![1, 896, 4096]⟩) ![0, q, 0] ![1, 128, 4096] o2))
          (View.ld x2 (Rect.unit (s := ⟨3, ![1, 896, 1]⟩) ![0, 0, 0] ![1, R, 1] o3))
          (View.ld x1 (Rect.unit (s := ⟨3, ![1, 1, 896]⟩) ![0, 0, q] ![1, 1, 128] o4))) r64 s65 s78
        (ix3 (0 : Fin 1) (0 : Fin 1) c)
      = blk v1 x0 x1 x2 p := by
  have hR' : R ≤ 896 := by omega
  have hpR : p.val ≤ R := by have := c.isLt; omega
  have h44 : ∀ (j : Fin R) (k : Fin 4096),
      View.ld x0 (Rect.unit (s := ⟨3, ![1, 896, 4096]⟩) ![0, 0, 0] ![1, R, 4096] o1) (ix3 (0 : Fin 1) j k)
        = x0 (ix3 (0 : Fin 1) (j.castLE hR') k) := fun j k =>
    View.ld_unit_apply_of x0 _ _ o1 _ _ fun a => by match a with
      | ⟨0, _⟩ => rfl
      | ⟨1, _⟩ => exact (Nat.zero_add _).symm
      | ⟨2, _⟩ => exact (Nat.zero_add _).symm
  have h46 : ∀ k : Fin 4096,
      View.ld x0 (Rect.unit (s := ⟨3, ![1, 896, 4096]⟩) ![0, q, 0] ![1, 128, 4096] o2) (ix3 (0 : Fin 1) c k)
        = x0 (ix3 (0 : Fin 1) p k) := fun k =>
    View.ld_unit_apply_of x0 _ _ o2 _ _ fun a => by match a with
      | ⟨0, _⟩ => rfl
      | ⟨1, _⟩ => exact hp
      | ⟨2, _⟩ => exact (Nat.zero_add _).symm
  have h49 : ∀ j : Fin R,
      View.ld x2 (Rect.unit (s := ⟨3, ![1, 896, 1]⟩) ![0, 0, 0] ![1, R, 1] o3) (ix3 (0 : Fin 1) j (0 : Fin 1))
        = x2 (ix3 (0 : Fin 1) (j.castLE hR') (0 : Fin 1)) := fun j =>
    View.ld_unit_apply_of x2 _ _ o3 _ _ fun a => by match a with
      | ⟨0, _⟩ => rfl
      | ⟨1, _⟩ => exact (Nat.zero_add _).symm
      | ⟨2, _⟩ => rfl
  have h51 : View.ld x1 (Rect.unit (s := ⟨3, ![1, 1, 896]⟩) ![0, 0, q] ![1, 1, 128] o4) (ix3 (0 : Fin 1) (0 : Fin 1) c)
        = x1 (ix3 (0 : Fin 1) (0 : Fin 1) p) :=
    View.ld_unit_apply_of x1 _ _ o4 _ _ fun a => by match a with
      | ⟨0, _⟩ => rfl
      | ⟨1, _⟩ => rfl
      | ⟨2, _⟩ => exact hp
  refine (pay_apply _ _ _ r64 s65 s78 c).trans ?_
  rw [inside_apply hq, select_ofBool, ← hp]
  unfold blk maxSim
  refine congrArg (fun z => if 1 ≤ p.val ∧ (p.val : ℤ) < v1.toInt then z else (0 : EReal)) ?_
  refine Eq.trans ?_ (fold_prefix hR' hpR _)
  refine congrArg (fun f => Finset.fold max (⊥ : EReal) f (Finset.univ : Finset (Fin R))) (funext fun j => ?_)
  rw [before_apply hq hR', select_ofBool, ← hp, scaled_apply, h49, h51]
  simp only [h44, h46]

/-- The tile with its guard: where the cluster stops before the tile's first query, the zeros stored instead are the
    cluster's results too. -/
theorem guarded_blk {q : ℕ} {v1 : BitVec 32} {x0 x1 x2} {g : Prop} [Decidable g] (hg : g ↔ (q : ℤ) < v1.toInt)
    {A B : Vec Ideal ⟨3, ![1, 1, 128]⟩ .f32} (hB : ∀ y, B y = (0 : EReal)) (c : Fin 128) (p : Fin 896) (hp : p.val = q + c.val)
    (hA : A (ix3 (0 : Fin 1) (0 : Fin 1) c) = blk v1 x0 x1 x2 p) :
    (if g then A else B) (ix3 (0 : Fin 1) (0 : Fin 1) c) = blk v1 x0 x1 x2 p := by
  by_cases h : g
  · rw [if_pos h]; exact hA
  · rw [if_neg h, hB]
    unfold blk maxSim
    rw [if_neg]
    rintro ⟨-, h'⟩
    exact h (hg.2 (by omega))

end Cert.TileValue

end
-- ==== Proof.KernelValue.lean ====
/- `Kernel`'s result at extended reals: each cluster's output block holds the specification of that cluster, so the
   result array does. -/
module

public import proofs.«01_k».proof.Proof.KernelFrame
public import proofs.«01_k».proof.Proof.TileValue
public import Idealize.ShloMosaic.Lib.Pipeline.ValueKit.Geometry

@[expose] public section

set_option maxRecDepth 16384

noncomputable section

namespace Cert.Kernel.Hand

open Cert.Kernel Cert.Kernel.Gen
open Idealize.ShloMosaic Idealize.ShloMosaic.TcCoe Idealize.ShloMosaic.ValueIdx
open Cert.TileValue (blk pay_blk guarded_blk)

/-! ## The seven tiles -/

/-- The zeros stored for a tile the cluster does not reach. -/
theorem zeros_apply (y : S1x1x128.Idx) : k0_pay7 (F := Ideal) y = (0 : EReal) :=
  Ideal.ofBits_zero_f32

section tiles

variable (v1 : BitVec 32) (x0 : Vec Ideal S1x896x4096 .fp8e4m3) (x1 : Vec Ideal S1x1x896 .f32) (x2 : Vec Ideal S1x896x1 .f32)
  (c : Fin 128) (p : Fin 896)

/-- Tile 0 holds the cluster's results at queries 0 to 127. -/
theorem tile0_apply (hp : p.val = 0 + c.val) : tile0 v1 x0 x1 x2 (ix3 (0 : Fin 1) (0 : Fin 1) c) = blk v1 x0 x1 x2 p :=
  guarded_blk (q := 0) (Cert.Guarded.guard_sgt v1 0#32) zeros_apply c p hp
    (pay_blk (q := 0) rfl (by decide) _ _ _ _ _ _ _ _ _ _ _ _ v1 x0 x1 x2 _ _ _ _ c p hp)
/-- Tile 1 holds the cluster's results at queries 128 to 255. -/
theorem tile1_apply (hp : p.val = 128 + c.val) : tile1 v1 x0 x1 x2 (ix3 (0 : Fin 1) (0 : Fin 1) c) = blk v1 x0 x1 x2 p :=
  guarded_blk (q := 128) (Cert.Guarded.guard_sgt v1 128#32) zeros_apply c p hp
    (pay_blk (q := 128) rfl (by decide) _ _ _ _ _ _ _ _ _ _ _ _ v1 x0 x1 x2 _ _ _ _ c p hp)
/-- Tile 2 holds the cluster's results at queries 256 to 383. -/
theorem tile2_apply (hp : p.val = 256 + c.val) : tile2 v1 x0 x1 x2 (ix3 (0 : Fin 1) (0 : Fin 1) c) = blk v1 x0 x1 x2 p :=
  guarded_blk (q := 256) (Cert.Guarded.guard_sgt v1 256#32) zeros_apply c p hp
    (pay_blk (q := 256) rfl (by decide) _ _ _ _ _ _ _ _ _ _ _ _ v1 x0 x1 x2 _ _ _ _ c p hp)
/-- Tile 3 holds the cluster's results at queries 384 to 511. -/
theorem tile3_apply (hp : p.val = 384 + c.val) : tile3 v1 x0 x1 x2 (ix3 (0 : Fin 1) (0 : Fin 1) c) = blk v1 x0 x1 x2 p :=
  guarded_blk (q := 384) (Cert.Guarded.guard_sgt v1 384#32) zeros_apply c p hp
    (pay_blk (q := 384) rfl (by decide) _ _ _ _ _ _ _ _ _ _ _ _ v1 x0 x1 x2 _ _ _ _ c p hp)
/-- Tile 4 holds the cluster's results at queries 512 to 639. -/
theorem tile4_apply (hp : p.val = 512 + c.val) : tile4 v1 x0 x1 x2 (ix3 (0 : Fin 1) (0 : Fin 1) c) = blk v1 x0 x1 x2 p :=
  guarded_blk (q := 512) (Cert.Guarded.guard_sgt v1 512#32) zeros_apply c p hp
    (pay_blk (q := 512) rfl (by decide) _ _ _ _ _ _ _ _ _ _ _ _ v1 x0 x1 x2 _ _ _ _ c p hp)
/-- Tile 5 holds the cluster's results at queries 640 to 767. -/
theorem tile5_apply (hp : p.val = 640 + c.val) : tile5 v1 x0 x1 x2 (ix3 (0 : Fin 1) (0 : Fin 1) c) = blk v1 x0 x1 x2 p :=
  guarded_blk (q := 640) (Cert.Guarded.guard_sgt v1 640#32) zeros_apply c p hp
    (pay_blk (q := 640) rfl (by decide) _ _ _ _ _ _ _ _ _ _ _ _ v1 x0 x1 x2 _ _ _ _ c p hp)
/-- Tile 6 holds the cluster's results at queries 768 to 895. -/
theorem tile6_apply (hp : p.val = 768 + c.val) : tile6 v1 x0 x1 x2 (ix3 (0 : Fin 1) (0 : Fin 1) c) = blk v1 x0 x1 x2 p :=
  guarded_blk (q := 768) (Cert.Guarded.guard_sgt v1 768#32) zeros_apply c p hp
    (pay_blk (q := 768) rfl (by decide) _ _ _ _ _ _ _ _ _ _ _ _ v1 x0 x1 x2 _ _ _ _ c p hp)

end tiles

/-- The output block holds the cluster's results. -/
theorem outBlk_apply (v1 : BitVec 32) (x0 : Vec Ideal S1x896x4096 .fp8e4m3) (x1 : Vec Ideal S1x1x896 .f32)
    (x2 : Vec Ideal S1x896x1 .f32) (y : S1x1x896.Idx) : outBlk v1 x0 x1 x2 y = blk v1 x0 x1 x2 (y 2) := by
  unfold outBlk
  refine View.canon_apply_of_pieces (fun y : S1x1x896.Idx => (blk v1 x0 x1 x2 (y 2) : Elt Ideal .f32)) _ (fun p hp x => ?_) y
    (pieces_cover v1 x0 x1 x2 y)
  have key : ∀ (q : ℕ) (inb) (w : Vec Ideal S1x1x128 .f32),
      (∀ (c : Fin 128) (p : Fin 896), p.val = q + c.val → w (ix3 (0 : Fin 1) (0 : Fin 1) c) = blk v1 x0 x1 x2 p) →
      ∀ x : S1x1x128.Idx, w x = blk v1 x0 x1 x2 ((Rect.unit (s := S1x1x896) ![0, 0, q] S1x1x128.size inb).emb x 2) := by
    intro q inb w h x
    have hx : x = ix3 (0 : Fin 1) (0 : Fin 1) (x 2) := by
      funext a
      match a with
      | ⟨0, _⟩ => exact Subsingleton.elim (α := Fin 1) _ _
      | ⟨1, _⟩ => exact Subsingleton.elim (α := Fin 1) _ _
      | ⟨2, _⟩ => rfl
    refine (congrArg w hx).trans (h (x 2) _ ?_)
    exact Rect.idx_unit_val (s := S1x1x896) ![0, 0, q] S1x1x128.size inb x 2
  simp only [pieces, List.mem_cons, List.mem_nil_iff, or_false] at hp
  rcases hp with rfl | rfl | rfl | rfl | rfl | rfl | rfl
  · exact key 768 inb_S1x1x896_S1x1x128_0_0_768 _ (tile6_apply v1 x0 x1 x2) x
  · exact key 640 inb_S1x1x896_S1x1x128_0_0_640 _ (tile5_apply v1 x0 x1 x2) x
  · exact key 512 inb_S1x1x896_S1x1x128_0_0_512 _ (tile4_apply v1 x0 x1 x2) x
  · exact key 384 inb_S1x1x896_S1x1x128_0_0_384 _ (tile3_apply v1 x0 x1 x2) x
  · exact key 256 inb_S1x1x896_S1x1x128_0_0_256 _ (tile2_apply v1 x0 x1 x2) x
  · exact key 128 inb_S1x1x896_S1x1x128_0_0_128 _ (tile1_apply v1 x0 x1 x2) x
  · exact key 0 inb_S1x1x896_S1x1x128_0_0_0 _ (tile0_apply v1 x0 x1 x2) x

/-! ## The blocks a grid point is given, read off the argument arrays -/

variable (m : (ℓ : Loc nD τ sig) → Buf (Elt Ideal) ℓ)

/-- The three argument arrays as functions of their indices. -/
abbrev codes (c : Dev nD) : S2x896x4096.Idx → EReal := m ((c : Thread nD τ).loc main_arg0)
abbrev scales (c : Dev nD) : S2x896.Idx → EReal := m ((c : Thread nD τ).loc main_arg1)
abbrev sizes (c : Dev nD) : S2.Idx → BitVec 32 := m ((c : Thread nD τ).loc main_arg2)

/-- Grid point `t` works on cluster `t`. -/
def cl (t : Fin grid0.N) : Fin 2 := ⟨t.val, t.isLt.trans_eq N_0⟩

theorem ix_0 : ∀ (t : Fin grid0.N) (a : Fin 3), cc0_transform_0 (grid0.coords t) a = ![t.val, 0, 0] a := by decide +kernel
theorem ix_1 : ∀ (t : Fin grid0.N) (a : Fin 3), cc0_transform_1 (grid0.coords t) a = ![t.val, 0, 0] a := by decide +kernel
theorem ix_2 : ∀ (t : Fin grid0.N) (a : Fin 3), cc0_transform_2 (grid0.coords t) a = ![t.val, 0, 0] a := by decide +kernel
theorem ix_3 : ∀ (t : Fin grid0.N) (a : Fin 3), cc0_transform_3 (grid0.coords t) a = ![t.val, 0, 0] a := by decide +kernel
theorem ix_t : ∀ t : Fin grid0.N, k0_off1 (grid0.coords t) 0 = t.val := by decide +kernel

/-- The size word read at point `t` is cluster `t`'s size. -/
theorem word_apply (t : Fin grid0.N) : word (grid0.coords t) (c := (0 : Dev nD)) (tbl m 0) = sizes m 0 (ix1 (cl t)) := by
  have h : tbl m 0 = m (((0 : Dev nD) : Thread nD τ).loc main_arg2) := V_main_arg2 m 0
  rw [h]
  refine congrArg (sizes m 0) (funext fun a => Fin.ext ?_)
  match a with
  | ⟨0, _⟩ => exact (Rect.idx_unit_val (s := S2) (k0_off1 (grid0.coords t)) S1.size (k0_off1_inb _) _ 0).trans (ix_t t)

/-- The scales as a row, which @main passes to the call. -/
theorem V_main_v0 (c : Dev nD) : V m c main_v0 = broadcastInDim S2x1x896 ![0, 2] bcast_S2x896_S2x1x896_0_2 (scales m c) := by
  show StableHlo.after hostOps0 (fun b => m (c, b)) (Proc.devRef .tc main_v0) = _
  after_results
/-- The scales as a column, which @main passes to the call. -/
theorem V_main_v1 (c : Dev nD) : V m c main_v1 = broadcastInDim S2x896x1 ![0, 1] bcast_S2x896_S2x896x1_0_1 (scales m c) := by
  show StableHlo.after hostOps0 (fun b => m (c, b)) (Proc.devRef .tc main_v1) = _
  after_results

/-- The block of codes at point `t` is cluster `t`'s. -/
theorem iblk0_apply (hO : Ok m) (c : Dev nD) (t : Fin grid0.N) (j : Fin 896) (k : Fin 4096) :
    iblk m hO c 0 t (ix3 (0 : Fin 1) j k) = codes m c (ix3 (cl t) j k) := by
  unfold iblk
  show V m c main_arg0 ((((cfgM m hO).win 0).rect t).emb (ix3 (0 : Fin 1) j k)) = _
  rw [V_main_arg0]
  have hv : ∀ a : Fin 3, (((((cfgM m hO).win 0).rect t).emb (ix3 (0 : Fin 1) j k)) a).val
      = ![t.val, 0, 0] a * S1x896x4096.size a + (ix3 (0 : Fin 1) j k a).val := fun a => by
    rw [← ix_0]; exact ((cfgM m hO).win 0).rect_emb_val t _ a
  refine congrArg (codes m c) (funext fun a => Fin.ext ?_)
  match a with
  | ⟨0, _⟩ => exact (hv 0).trans (show t.val * 1 + 0 = t.val by omega)
  | ⟨1, _⟩ => exact (hv 1).trans (show 0 * 896 + j.val = j.val by omega)
  | ⟨2, _⟩ => exact (hv 2).trans (show 0 * 4096 + k.val = k.val by omega)

/-- The row of scales at point `t` is cluster `t`'s. -/
theorem iblk1_apply (hO : Ok m) (c : Dev nD) (t : Fin grid0.N) (p : Fin 896) :
    iblk m hO c 1 t (ix3 (0 : Fin 1) (0 : Fin 1) p) = scales m c (ix2 (cl t) p) := by
  unfold iblk
  show V m c main_v0 ((((cfgM m hO).win 1).rect t).emb (ix3 (0 : Fin 1) (0 : Fin 1) p)) = _
  rw [V_main_v0]
  have hv : ∀ a : Fin 3, (((((cfgM m hO).win 1).rect t).emb (ix3 (0 : Fin 1) (0 : Fin 1) p)) a).val
      = ![t.val, 0, 0] a * S1x1x896.size a + (ix3 (0 : Fin 1) (0 : Fin 1) p a).val := fun a => by
    rw [← ix_1]; exact ((cfgM m hO).win 1).rect_emb_val t _ a
  refine broadcastInDim_apply _ _ (scales m c) _ (ix2 (cl t) p) fun a => ?_
  match a with
  | ⟨0, _⟩ => exact (show t.val = t.val * 1 + 0 by omega).trans (hv 0).symm
  | ⟨1, _⟩ => exact (show p.val = 0 * 896 + p.val by omega).trans (hv 2).symm

/-- The column of scales at point `t` is cluster `t`'s. -/
theorem iblk2_apply (hO : Ok m) (c : Dev nD) (t : Fin grid0.N) (j : Fin 896) :
    iblk m hO c 2 t (ix3 (0 : Fin 1) j (0 : Fin 1)) = scales m c (ix2 (cl t) j) := by
  unfold iblk
  show V m c main_v1 ((((cfgM m hO).win 2).rect t).emb (ix3 (0 : Fin 1) j (0 : Fin 1))) = _
  rw [V_main_v1]
  have hv : ∀ a : Fin 3, (((((cfgM m hO).win 2).rect t).emb (ix3 (0 : Fin 1) j (0 : Fin 1))) a).val
      = ![t.val, 0, 0] a * S1x896x1.size a + (ix3 (0 : Fin 1) j (0 : Fin 1) a).val := fun a => by
    rw [← ix_2]; exact ((cfgM m hO).win 2).rect_emb_val t _ a
  refine broadcastInDim_apply _ _ (scales m c) _ (ix2 (cl t) j) fun a => ?_
  match a with
  | ⟨0, _⟩ => exact (show t.val = t.val * 1 + 0 by omega).trans (hv 0).symm
  | ⟨1, _⟩ => exact (show j.val = 0 * 896 + j.val by omega).trans (hv 1).symm

/-! ## The result array -/

/-- The specification of the argument arrays. -/
abbrev res (c : Dev nD) : S2x896.Idx → EReal := Cert.Spec.G (codes m c) (scales m c) (sizes m c)

/-- What the body leaves at point `t` is the specification's row `t`. -/
theorem outsAt0_apply (hO : Ok m) (c : Dev nD) (t : Fin grid0.N) (y : S1x1x896.Idx) :
    outsAt0 m hO c t y = res m c (ix2 (cl t) (y 2)) := by
  obtain rfl : c = 0 := Subsingleton.elim _ _
  suffices h : ∀ p : Fin 896, blk (word (grid0.coords t) (c := (0 : Dev nD)) (tbl m 0)) (iblk m hO 0 0 t) (iblk m hO 0 1 t)
      (iblk m hO 0 2 t) p = res m 0 (ix2 (cl t) p) from (outBlk_apply _ _ _ _ y).trans (h (y 2))
  intro p
  unfold blk res Cert.Spec.G Cert.Spec.sim
  rw [word_apply]
  simp only [iblk0_apply, iblk1_apply, iblk2_apply]

/-- Where point `t`'s block of the result lies in the array. -/
theorem emb3_val (hO : Ok m) (t : Fin grid0.N) (y : S1x1x896.Idx) (a : Fin 3) :
    (((((cfgM m hO).win 3).rect t).emb y) a).val = ![t.val, 0, 0] a * S1x1x896.size a + (y a).val := by
  rw [← ix_3]; exact ((cfgM m hO).win 3).rect_emb_val t y a

/-- The call's result array, of shape [2, 1, 896]: the specification, with the unit axis put in. -/
def arr (c : Dev nD) (y : S2x1x896.Idx) : EReal := res m c (ix2 (n0 := 2) (n1 := 896) (y 0) (y 2))

/-- What the body leaves at point `t` is that array's block there. -/
theorem outsAt0_eq_arr (hO : Ok m) (c : Dev nD) (t : Fin grid0.N) (y : S1x1x896.Idx) :
    outsAt0 m hO c t y = arr m c ((((cfgM m hO).win 3).rect t).emb y) := by
  refine (outsAt0_apply m hO c t y).trans (congrArg (res m c) (funext fun a => Fin.ext ?_))
  match a with
  | ⟨0, _⟩ =>
    refine Eq.trans ?_ (emb3_val m hO t y 0).symm
    have h0 : (y 0).val < 1 := (y 0).isLt
    show t.val = t.val * 1 + (y 0).val; omega
  | ⟨1, _⟩ =>
    refine Eq.trans ?_ (emb3_val m hO t y 2).symm
    show (y 2).val = 0 * 896 + (y 2).val; omega

/-- The two points' blocks are the whole result array. -/
theorem cover3 (hO : Ok m) (i : S2x1x896.Idx) :
    ∃ t : Fin (cfgM m hO).N, ((cfgM m hO).win 3).flush t = true ∧ i ∈ (((cfgM m hO).win 3).blk t).view.set := by
  have h0 : (i 0).val < 2 := (i 0).isLt
  have h1 : (i 1).val < 1 := (i 1).isLt
  have h2 : (i 2).val < 896 := (i 2).isLt
  refine ⟨⟨(i 0).val, h0.trans_eq N_0.symm⟩, flush0_3 (adm m hO) _, ?_⟩
  have key : ∀ a : Fin 3, ![(i 0).val, 0, 0] a * S1x1x896.size a ≤ (i a).val
      ∧ (i a).val < ![(i 0).val, 0, 0] a * S1x1x896.size a + S1x1x896.size a := fun a => by
    match a with
    | ⟨0, _⟩ => show (i 0).val * 1 ≤ (i 0).val ∧ (i 0).val < (i 0).val * 1 + 1; omega
    | ⟨1, _⟩ => show 0 * 1 ≤ (i 1).val ∧ (i 1).val < 0 * 1 + 1; omega
    | ⟨2, _⟩ => show 0 * 896 ≤ (i 2).val ∧ (i 2).val < 0 * 896 + 896; omega
  refine (((cfgM m hO).win 3).emb_mem_blk_iff _ i).mpr fun a => ?_
  have e := ix_3 ⟨(i 0).val, h0.trans_eq N_0.symm⟩ a
  have k := key a
  rw [← e] at k
  exact k

/-- The call's result array ends holding it. -/
theorem final_v2 (hO : Ok m) (c : Dev nD) : (dats m hO 0 c).arrAt 3 (cfgM m hO).N = arr m c :=
  (dats m hO 0 c).arrAt_eq_of_emb 3 (arr m c)
    (fun t _ y => (congrFun (after0_3 m hO c t) y).trans (outsAt0_eq_arr m hO c t y)) (cover3 m hO)

/-- @main's result, that array reshaped to [2, 896], is the specification. -/
theorem final_v3 (hO : Ok m) (c : Dev nD) :
    Pipeline.afterTail pcfgs (fun _ => adm m hO) (dats m hO) 0 (V0 m) [hostOps1] c main_v3 = res m c := by
  unfold Pipeline.afterTail
  have ha := (Pipeline.withArrays_arr spec0 (by decide) c (V0 m c) (fun w => (dats m hO 0 c).arrAt w (cfgM m hO).N) 3).trans (final_v2 m hO c)
  show StableHlo.after hostOps1 _ (Proc.devRef .tc main_v3) = _
  after_results
  funext i
  refine (congrArg (fun z : S2x1x896.Idx → EReal => shapeCast S2x896 z shapeCasts_S2x1x896_S2x896 i) ha).trans ?_
  have h0 : (i 0).val < 2 := (i 0).isLt
  have h1 : (i 1).val < 896 := (i 1).isLt
  refine (shapeCast_apply (arr m c) shapeCasts_S2x1x896_S2x896 i (ix3 (n0 := 2) (n1 := 1) (n2 := 896) ⟨(i 0).val, h0⟩ 0 ⟨(i 1).val, h1⟩) ?_).trans ?_
  · rw [Shape.rowMajor_val_three, Shape.rowMajor_val_two]
    show ((i 0).val * 1 + 0) * 896 + (i 1).val = (i 0).val * 896 + (i 1).val
    omega
  · refine congrArg (res m c) (funext fun a => ?_)
    match a with
    | ⟨0, _⟩ => rfl
    | ⟨1, _⟩ => rfl

/-- The run: from any memory with zero counters every run of @main ends with the specification of the arguments in the
    result and the arguments unchanged. -/
theorem value (ρ : Dev nD → PrngReg) (hO : Ok m) : θ_run defs (onTc (τ := τ) (main (F := Ideal))) ⟨m, fun _ => 0, ρ⟩ (fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 (by decide : main_v3 ∈ Pipeline.restRefs sig spec0)).trans (final_v3 m hO c),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩) (run_main m ρ hO)

end Cert.Kernel.Hand

end
-- ==== Proof.RefValue.lean ====
/- The reference's result at extended reals: its kernel region leaves every inner product of two rows of a cluster, and
   the operations after the region scale, mask and reduce them to the specification. -/
module

public import proofs.«01_k».proof.Proof.TileValue
public import proofs.«01_k».proof.Proof.Gen.ReferenceIdeal.Run
public import proofs.«01_k».proof.Proof.Gen.ReferenceIdeal.Read
public import Idealize.ShloMosaic.Lib.Pointwise.Contract
public import Idealize.ShloMosaic.Lib.Pipeline.ValueKit.Geometry

@[expose] public section

set_option maxRecDepth 16384

noncomputable section

namespace Cert.ReferenceIdeal.Hand

open Cert.ReferenceIdeal Cert.ReferenceIdeal.Gen Cert.ReferenceIdeal.Read
open Idealize.ShloMosaic hiding ix1 ix2 ix3
open Idealize.ShloMosaic.TcCoe Idealize.ShloMosaic.ValueIdx Idealize.ShloMosaic.WordCmp
open Idealize.SL.Sem
open Cert.TileValue (ofBits_neg_inf)

/-! ## The inner products -/

/-- The inner product of rows `i 1` and `i 2` of cluster `i 0`. -/
def dots (C : S2x896x4096.Idx → EReal) (i : S2x896x896.Idx) : EReal :=
  ∑ k : Fin 4096, C (ix3 (n0 := 2) (n1 := 896) (i 0) (i 1) k) * C (ix3 (n0 := 2) (n1 := 896) (i 0) (i 2) k)

/-- The body's product of the codes with themselves. -/
theorem pay_eq (C : Vec Ideal S2x896x4096 .fp8e4m3) : k0_pay1 (F := Ideal) C = dots C := by
  funext i
  refine (Ideal.matmul_apply₁_of dot_S2x896x4096_S2x896x4096_S2x896x896_2_2_1_1_0_0 (a := 2) rfl (K := 4096) rfl C C _ i
    (fun k => ix3 (n0 := 2) (n1 := 896) (i 0) (i 1) k) (fun k => ix3 (n0 := 2) (n1 := 896) (i 0) (i 2) k)
    (fun k => ?_) (fun k => ?_)).trans ?_
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · rw [constant_apply, Ideal.ofBits_zero_f32, zero_add]
    rfl

/-- What the body leaves in the result's buffer. -/
theorem out_eq (C : Vec Ideal S2x896x4096 .fp8e4m3) : out0_1 (F := Ideal) C = dots C := by
  have hz : (![0, 0, 0] : Fin 3 → ℕ) = fun _ => 0 := by decide
  unfold out0_1
  rw [View.ld_unit_zero hz, View.canon_unit_zero hz, pay_eq]

/-! ## The later operations -/

/-- The positions 0 to 895, as the reference lists them. -/
abbrev pos : S896.Idx → BitVec 32 := iotaInDim S896 32 0

section later

variable (S : S2x896.Idx → EReal) (Z : S2.Idx → BitVec 32) (D : S2x896x896.Idx → EReal) (b : Fin 2) (i j : Fin 896)

/-- The pairs compared: the second row earlier than the first, and in the cluster. -/
theorem mask_apply : val_main_v21 (F := Ideal) Z pos (ix3 b i j)
    = BitVec.ofBool (decide (j.val < i.val ∧ (j.val : ℤ) < (Z (ix1 b)).toInt)) := by
  have hi := i.isLt
  have hj := j.isLt
  have hz : idx_main_v8 (idx_main_v15 (idx_main_v17 (idx_main_v20 (ix3 b i j)))) = ix1 b := funext fun a => match a with
    | ⟨0, _⟩ => rfl
  simp only [val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply]
  rw [hz]
  show IntOp.andi (IntOp.cmpi .slt (BitVec.ofNat 32 j.val) (BitVec.ofNat 32 i.val))
    (IntOp.cmpi .slt (BitVec.ofNat 32 j.val) (Z (ix1 b))) = _
  rw [cmpi_slt_eq, cmpi_slt_eq, toInt_ofNat_of_lt (by omega), toInt_ofNat_of_lt (by omega), andi_ofBool, ← Bool.decide_and]
  congr 2
  exact propext (and_congr_left fun _ => Int.ofNat_lt)

/-- The rows that have a predecessor and are in the cluster. -/
theorem inside_apply : val_main_v32 (F := Ideal) Z pos (ix2 b i)
    = BitVec.ofBool (decide (1 ≤ i.val ∧ (i.val : ℤ) < (Z (ix1 b)).toInt)) := by
  have hi := i.isLt
  have hz : idx_main_v8 (idx_main_v29 (ix2 b i)) = ix1 b := funext fun a => match a with
    | ⟨0, _⟩ => rfl
  simp only [val_main_v32_apply, val_main_v31_apply, val_main_v30_apply, val_main_v29_apply, val_main_v28_apply,
    val_main_v27_apply, val_main_v26_apply, val_main_v25_apply, val_main_v24_apply, val_main_c_apply, val_main_v8_apply]
  rw [hz]
  show IntOp.andi (IntOp.cmpi .sge (BitVec.ofNat 32 i.val) 1#32) (IntOp.cmpi .slt (BitVec.ofNat 32 i.val) (Z (ix1 b))) = _
  have h1 : (1#32 : BitVec 32).toInt = 1 := by decide
  rw [cmpi_sge_eq, cmpi_slt_eq, h1, toInt_ofNat_of_lt (by omega), andi_ofBool, ← Bool.decide_and]
  congr 2
  exact propext (and_congr_left fun _ => by omega)

/-- The inner products times the product of the two rows' scales. -/
theorem scaled_apply : val_main_v7 (F := Ideal) S D (ix3 b i j) = D (ix3 b i j) * (S (ix2 b i) * S (ix2 b j)) := by
  have hi : idx_main_v2 (idx_main_v4 (ix3 b i j)) = ix2 b i := funext fun a => match a with
    | ⟨0, _⟩ => rfl
    | ⟨1, _⟩ => rfl
  have hj : idx_main_v3 (idx_main_v5 (ix3 b i j)) = ix2 b j := funext fun a => match a with
    | ⟨0, _⟩ => rfl
    | ⟨1, _⟩ => rfl
  simp only [val_main_v7_apply, val_main_v6_apply, val_main_v5_apply, val_main_v4_apply, val_main_v3_apply, val_main_v2_apply]
  rw [hi, hj]
  rfl

/-- The scaled inner products, minus infinity where the pair is not compared. -/
theorem masked_apply : val_main_v22 (F := Ideal) S Z D pos (ix3 b i j)
    = if j.val < i.val ∧ (j.val : ℤ) < (Z (ix1 b)).toInt then D (ix3 b i j) * (S (ix2 b i) * S (ix2 b j)) else (⊥ : EReal) := by
  rw [val_main_v22_apply, mask_apply, scaled_apply, Cert.TileValue.select_ofBool, val_main_call0_v1_apply, val_main_call0_v0_apply,
    val_main_cst_apply]
  congr 1

/-- The maximum over the second row. -/
theorem max_apply : val_main_v23 (F := Ideal) S Z D pos (ix2 b i)
    = (Finset.univ : Finset (Fin 896)).fold max (⊥ : EReal) fun j =>
        if j.val < i.val ∧ (j.val : ℤ) < (Z (ix1 b)).toInt then D (ix3 b i j) * (S (ix2 b i) * S (ix2 b j)) else (⊥ : EReal) := by
  have h : S2x896x896.Reduces [2] S2x896 := by decide
  have hl : ∀ j : Fin 896, h.lift (ix2 b i) j = ix3 b i j := fun j => funext fun a => match a with
    | ⟨0, _⟩ => rfl
    | ⟨1, _⟩ => rfl
    | ⟨2, _⟩ => rfl
  unfold val_main_v23
  refine (Host.reduce_eq_fold_single FloatOps.maximumf _ _ _ h h_S_ (ix2 b i)).trans ?_
  rw [val_main_cst_0_apply]
  have hb : (FloatOps.ofBits .f32 0xFF800000#32 : Ideal .f32) = (⊥ : EReal) := ofBits_neg_inf
  rw [hb]
  exact congrArg (fun f => Finset.fold max (⊥ : EReal) f (Finset.univ : Finset (Fin 896)))
    (funext fun j => (congrArg (val_main_v22 (F := Ideal) S Z D pos) (hl j)).trans (masked_apply S Z D b i j))

/-- The reference's result at row `i` of cluster `b`. -/
theorem result_apply : val_main_v33 (F := Ideal) S Z D pos (ix2 b i)
    = Cert.Spec.maxSim (Z (ix1 b)).toInt (fun j => D (ix3 b i j) * (S (ix2 b i) * S (ix2 b j))) i.val := by
  rw [val_main_v33_apply, inside_apply, Cert.TileValue.select_ofBool, max_apply, val_main_call1_v1_apply, val_main_call1_v0_apply,
    val_main_cst_1_apply]
  unfold Cert.Spec.maxSim
  by_cases h : 1 ≤ i.val ∧ (i.val : ℤ) < (Z (ix1 b)).toInt
  · rw [if_pos h, if_pos h]
    exact Cert.Spec.fold_masked h.2 _
  · rw [if_neg h, if_neg h]
    exact Ideal.ofBits_zero_f32

end later

/-- Of the inner products, the reference's result is the specification. -/
theorem result_eq (C : S2x896x4096.Idx → EReal) (S : S2x896.Idx → EReal) (Z : S2.Idx → BitVec 32) :
    val_main_v33 (F := Ideal) S Z (dots C) pos = Cert.Spec.G C S Z := by
  funext y
  have hy : y = ix2 (n0 := 2) (n1 := 896) (y 0) (y 1) := funext fun a => match a with
    | ⟨0, _⟩ => rfl
    | ⟨1, _⟩ => rfl
  refine (congrArg (val_main_v33 (F := Ideal) S Z (dots C) pos) hy).trans
    ((result_apply S Z (dots C) (y 0) (y 1)).trans ?_)
  unfold Cert.Spec.G
  exact congrArg (fun f => Cert.Spec.maxSim (Z (ix1 (n := 2) (y 0))).toInt f (y 1).val)
    (funext fun j => Cert.Spec.sim_comm (fun r k => C (ix3 (n0 := 2) (y 0) r k)) (fun r => S (ix2 (n0 := 2) (y 0) r)) (y 1) j)

/-! ## The run -/

variable (m : (ℓ : Loc nD τ sig) → Buf (Elt Ideal) ℓ)

/-- The one grid point's block of the codes is the whole array. -/
theorem iblk_eq (c : Dev nD) (t : Fin cfg0.N) : iblk m c 0 t = m ((c.tc : Thread nD τ).loc main_arg0) := by
  have h : V m c main_arg0 = m ((c.tc : Thread nD τ).loc main_arg0) := V_main_arg0 m c
  rw [← h]
  funext y
  unfold iblk
  show V m c main_arg0 (((cfg0.win 0).rect t).emb y) = V m c main_arg0 y
  refine congrArg (V m c main_arg0) (funext fun a => Fin.ext ?_)
  exact (cfg0.win 0).rect_emb_val_of_index_zero t a rfl y

/-- The region leaves the inner products of the codes. -/
theorem region_eq (c : Dev nD) : Value.reg_main_v1 m c = dots (m ((c.tc : Thread nD τ).loc main_arg0)) :=
  (dats m 0 c).arrAt_eq_of_after_last 1 ⟨0, by decide⟩ (by decide +kernel) (dots (m ((c.tc : Thread nD τ).loc main_arg0)))
    fun j => (congrFun (after0_1 m c _) _).trans
      (congrFun ((congrArg (out0_1 (F := Ideal)) (iblk_eq m c _)).trans (out_eq _)) j)

/-- Every run of the reference ends with the specification of the argument arrays in the result and the arguments as they
    were. -/
theorem value (ρ : Dev nD → PrngReg) :
    θ_run defs (onTc (τ := τ) (main (F := Ideal))) ⟨m, fun _ => 0, ρ⟩ fun r => ∀ c : Dev nD,
      r.2.mem ((c.tc : Thread nD τ).loc main_v33)
          = Cert.Spec.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    have e := val_main_v33_eq (F := Ideal) (Value.exitV m c)
    rw [Value.exit_main_arg1, Value.exit_main_arg2, Value.exit_main_v1, Value.exit_main_v0] at e
    rw [e, region_eq, result_eq]), (h c).2⟩) (Value.run m ρ)

end Cert.ReferenceIdeal.Hand

end
-- ==== Proof.lean ====
/- The claims: the kernel and its idealization run without a fault and leave their arguments, so does the
   reference, the idealization rewrote nothing, and at extended reals the kernel and the reference end with
   equal results. -/
module

public import proofs.«01_k».proof.Defs
public import proofs.«01_k».proof.Proof.Idealized
public import proofs.«01_k».proof.Proof.KernelValue
public import proofs.«01_k».proof.Proof.RefValue
public import proofs.«01_k».proof.Proof.Gen.ReferenceIdeal.Frame

@[expose] public section

noncomputable section

namespace Cert.Proof

open Idealize.ShloMosaic Idealize.SL.Sem

attribute [local instance] Cert.Kernel.Gen.facts Cert.KernelIdeal.Gen.facts Cert.ReferenceIdeal.Gen.facts

/-- The kernel's frame. -/
theorem quiescent_Kernel : Cert.quiescent_Kernel :=
  fun m g _ => Cert.Kernel.Hand.frame m g trivial

/-- The idealized kernel's frame: its runs are the kernel's at extended reals. -/
theorem quiescent_KernelIdeal : Cert.quiescent_KernelIdeal :=
  fun m g _ => Cert.Idealized.run_of m g _ (Cert.Kernel.Hand.frame m g trivial)

/-- The reference's frame. -/
theorem quiescent_ReferenceIdeal : Cert.quiescent_ReferenceIdeal :=
  fun m g _ => Cert.ReferenceIdeal.Gen.frame m g

/-- Kernel and reference both end with the specification of the argument arrays. -/
theorem algebraic_KernelIdeal_ReferenceIdeal : Cert.algebraic_KernelIdeal_ReferenceIdeal := by
  intro m g m' g' _ hagree
  refine ⟨fun c => Cert.Kernel.Hand.res m c, Cert.Idealized.run_of m g _ (Cert.Kernel.Hand.value m g trivial), ?_⟩
  refine (θ_run Cert.ReferenceIdeal.defs _ _).mono (fun _ h c => ⟨(h c).1.trans ?_, (h c).2⟩) (Cert.ReferenceIdeal.Hand.value m' g')
  obtain ⟨h0, h1, h2⟩ := hagree c
  rw [h0, h1, h2]

theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic_KernelIdeal_ReferenceIdeal⟩

end Cert.Proof

end
